-- ==== Defs.lean ====
def Pre_Kernel [hPre_in_vocab : Cert.Pre_in_vocab.Facts] (m : (ℓ : Loc Cert.Kernel.nD Cert.Kernel.τ Cert.Kernel.sig) → Buf (Elt Bits) ℓ) : Prop :=
  ∀ c : Dev Cert.Kernel.nD,
    (Cert.Pre_in_vocab.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_in_vocab : Cert.Pre_in_vocab.Facts] (m : (ℓ : Loc Cert.KernelIdeal.nD Cert.KernelIdeal.τ Cert.KernelIdeal.sig) → Buf (Elt Ideal) ℓ) : Prop :=
  ∀ c : Dev Cert.KernelIdeal.nD,
    (Cert.Pre_in_vocab.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_vocab [hPre_in_vocab : Cert.Pre_in_vocab.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_vocab.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Reference (m : (ℓ : Loc Cert.Reference.nD Cert.Reference.τ Cert.Reference.sig) → Buf (Elt Bits) ℓ) : Prop :=
  True

def Pre_Reference_in_vocab [hPre_in_vocab : Cert.Pre_in_vocab.Facts] (m : (ℓ : Loc Cert.Reference.nD Cert.Reference.τ Cert.Reference.sig) → Buf (Elt Bits) ℓ) : Prop :=
  ∀ c : Dev Cert.Reference.nD,
    (Cert.Pre_in_vocab.fn (F := Bits) (m ((c.tc : Thread Cert.Reference.nD Cert.Reference.τ).loc Cert.Reference.main_arg0)) (m ((c.tc : Thread Cert.Reference.nD Cert.Reference.τ).loc Cert.Reference.main_arg1))) = (fun _ => 1#1)

def quiescent_Kernel [hKernel : Cert.Kernel.Facts] [hPre_in_vocab : Cert.Pre_in_vocab.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_in_vocab : Cert.Pre_in_vocab.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_in_vocab [hReferenceIdeal : Cert.ReferenceIdeal.Facts] [hPre_in_vocab : Cert.Pre_in_vocab.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_vocab m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def quiescent_Reference_pre_in_vocab [hReference : Cert.Reference.Facts] [hPre_in_vocab : Cert.Pre_in_vocab.Facts] : Prop :=
  ∀ (m : (ℓ : Loc Cert.Reference.nD Cert.Reference.τ Cert.Reference.sig) → Buf (Elt Bits) ℓ) (g : Dev Cert.Reference.nD → PrngReg), Pre_Reference_in_vocab m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_vocab : Cert.Pre_in_vocab.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def bitexact_Kernel_Reference [hKernel : Cert.Kernel.Facts] [hReference : Cert.Reference.Facts] [hPre_in_vocab : Cert.Pre_in_vocab.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)) →
    ∃ (v0 : (c : Dev Cert.Kernel.nD) → Buf (Elt Bits) ((c.tc : Thread Cert.Kernel.nD Cert.Kernel.τ).loc Cert.Kernel.main_v2)),
      θ_run (Cert.Kernel.defs (F := Bits)) (Cert.Kernel.threads (F := Bits)) ⟨m, fun _ => 0, g⟩ (fun r => ∀ c : Dev Cert.Kernel.nD,
          r.2.mem ((c.tc : Thread Cert.Kernel.nD Cert.Kernel.τ).loc Cert.Kernel.main_v2) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v0) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1))

def Claim : Prop :=
  ∃ (hKernel : Cert.Kernel.Facts) (hKernelIdeal : Cert.KernelIdeal.Facts) (hReferenceIdeal : Cert.ReferenceIdeal.Facts) (hReference : Cert.Reference.Facts) (hPre_in_vocab : Cert.Pre_in_vocab.Facts),
    quiescent_Kernel (hKernel := hKernel) (hPre_in_vocab := hPre_in_vocab)
    ∧ quiescent_KernelIdeal (hKernelIdeal := hKernelIdeal) (hPre_in_vocab := hPre_in_vocab)
    ∧ quiescent_ReferenceIdeal (hReferenceIdeal := hReferenceIdeal)
    ∧ quiescent_ReferenceIdeal_pre_in_vocab (hReferenceIdeal := hReferenceIdeal) (hPre_in_vocab := hPre_in_vocab)
    ∧ quiescent_Reference (hReference := hReference)
    ∧ quiescent_Reference_pre_in_vocab (hReference := hReference) (hPre_in_vocab := hPre_in_vocab)
    ∧ preserves_Kernel_KernelIdeal
    ∧ algebraic_KernelIdeal_ReferenceIdeal (hKernelIdeal := hKernelIdeal) (hReferenceIdeal := hReferenceIdeal) (hPre_in_vocab := hPre_in_vocab)
    ∧ bitexact_Kernel_Reference (hKernel := hKernel) (hReference := hReference) (hPre_in_vocab := hPre_in_vocab)
-- ==== Pre_in_vocab.lean ====
abbrev S4096x200 : Shape := ⟨2, ![4096, 200]⟩
abbrev S100000x128 : Shape := ⟨2, ![100000, 128]⟩
abbrev S_ : Shape := ⟨0, ![]⟩

class Facts : Prop where
  bcast_S_S4096x200 : S_.BroadcastsInDim S4096x200 (![] : Fin 0 → Fin S4096x200.rank)
  reducesTo_S4096x200_S_d0_1 : S4096x200.ReducesTo [0, 1] S_
  h_S_ : 0 < S_.numel

variable [Facts]

def fn {F : FTy → Type} [FloatOps F] (main_arg0 : IVec S4096x200 32) (main_arg1 : FVec F S100000x128 .f32) : IVec S_ 1 :=
  let main_c : IVec S_ 32 := constantI S_ 32 0#32
  let main_v0 : IVec S4096x200 32 := broadcastInDim S4096x200 ![] bcast_S_S4096x200 main_c
  let main_v1 : IVec S4096x200 1 := cmpi .sge main_arg0 main_v0
  let main_c_0 : IVec S_ 32 := constantI S_ 32 100000#32
  let main_v2 : IVec S4096x200 32 := broadcastInDim S4096x200 ![] bcast_S_S4096x200 main_c_0
  let main_v3 : IVec S4096x200 1 := cmpi .slt main_arg0 main_v2
  let main_v4 : IVec S4096x200 1 := andi main_v1 main_v3
  let main_c_1 : IVec S_ 1 := constantI S_ 1 1#1
  let main_v5 : IVec S_ 1 := (fun x v => Host.reduce IntOp.andi x v reducesTo_S4096x200_S_d0_1 h_S_) main_v4 main_c_1
  main_v5
-- ==== Kernel.lean ====
abbrev S4096x200 : Shape := ⟨2, ![4096, 200]⟩
abbrev S100000x128 : Shape := ⟨2, ![100000, 128]⟩
abbrev S32x200x128 : Shape := ⟨3, ![32, 200, 128]⟩
abbrev S819200x128 : Shape := ⟨2, ![819200, 128]⟩
abbrev S200x128 : Shape := ⟨2, ![200, 128]⟩
abbrev S128x128 : Shape := ⟨2, ![128, 128]⟩
abbrev S16x2x128x128 : Shape := ⟨4, ![16, 2, 128, 128]⟩
abbrev S_ : Shape := ⟨0, ![]⟩
abbrev S1x200x128 : Shape := ⟨3, ![1, 200, 128]⟩
abbrev S1x128 : Shape := ⟨2, ![1, 128]⟩
abbrev S128 : Shape := ⟨1, ![128]⟩
abbrev S1x1x128x128 : Shape := ⟨4, ![1, 1, 128, 128]⟩
abbrev S4096x200x128 : Shape := ⟨3, ![4096, 200, 128]⟩

abbrev nBuf : Table → Nat
  | .hbm => 5
  | .shared => 1
  | .local .scVector .vmem => 3
  | _ => 0

abbrev bufTy : (tb : Table) → Fin (nBuf tb) → BufTy
  | .hbm, ⟨0, _⟩ => ⟨S4096x200, .i32⟩
  | .hbm, ⟨1, _⟩ => ⟨S100000x128, .f32⟩
  | .hbm, ⟨2, _⟩ => ⟨S32x200x128, .i32⟩
  | .hbm, ⟨3, _⟩ => ⟨S819200x128, .f32⟩
  | .hbm, ⟨4, _⟩ => ⟨S4096x200x128, .f32⟩
  | .shared, ⟨0, _⟩ => ⟨S16x2x128x128, .f32⟩
  | .local .scVector .vmem, ⟨0, _⟩ => ⟨S200x128, .i32⟩
  | .local .scVector .vmem, ⟨1, _⟩ => ⟨S128x128, .f32⟩
  | .local .scVector .vmem, ⟨2, _⟩ => ⟨S128x128, .f32⟩
  | _, _ => ⟨S4096x200, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 7 → Bool
  | ⟨0, _⟩ => false
  | ⟨1, _⟩ => false
  | ⟨2, _⟩ => false
  | ⟨3, _⟩ => false
  | ⟨4, _⟩ => false
  | ⟨5, _⟩ => false
  | ⟨6, _⟩ => false
  | _ => false

abbrev sig : RefSig :=
  ofTables nBuf rfl bufTy 4 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v0_scv : Ref sig .scVector := ⟨.hbm, 2, rfl⟩
abbrev main_arg1_scv : Ref sig .scVector := ⟨.hbm, 1, rfl⟩
abbrev main_v1_scv : Ref sig .scVector := ⟨.hbm, 3, rfl⟩
abbrev cc0_scratch3 : Ref sig .scVector := ⟨.shared, 0, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_18_r0 : BitVec 32 := 0#32
  let c0_i32_19_r0 : BitVec 32 := 0#32
  ![v1.toNat, 0, 0]
@[reducible] def k0_t1_loop : Scf.Loop 32 :=
  let c0_i32_7 : BitVec 32 := 0#32
  let c100_i32 : BitVec 32 := 100#32
  let v9 : BitVec 32 := Scalar.addi c0_i32_7 c100_i32
  let c1_i32_8 : BitVec 32 := 1#32
  ⟨c0_i32_7, v9, c1_i32_8⟩
def k0_off2 (k0_t1 : Fin k0_t1_loop.trips) (c0_i32_19 : BitVec 32) : Fin 2 → Nat :=
  let c0_i32_7 : BitVec 32 := 0#32
  let c1_i32_8 : BitVec 32 := 1#32
  let arg15 : BitVec 32 := Scf.iv c0_i32_7 c1_i32_8 k0_t1
  let c2_i32_18 : BitVec 32 := 2#32
  let v16 : BitVec 32 := Scalar.muli arg15 c2_i32_18
  let v17 : BitVec 32 := Scalar.addi v16 c0_i32_19
  let c0_i32_20 : BitVec 32 := 0#32
  ![v17.toNat, 0]
def k0_cond1 (k0_t1 : Fin k0_t1_loop.trips) : BitVec 1 :=
  let c0_i32_7 : BitVec 32 := 0#32
  let c1_i32_8 : BitVec 32 := 1#32
  let arg15 : BitVec 32 := Scf.iv c0_i32_7 c1_i32_8 k0_t1
  let c0_i32_23 : BitVec 32 := 0#32
  let v21 : BitVec 1 := Scalar.cmpi .sgt arg15 c0_i32_23
  let v22 : BitVec 32 := Scalar.extui v21
  let c0_i32_25 : BitVec 32 := 0#32
  let v23 : BitVec 1 := Scalar.cmpi .ne v22 c0_i32_25
  v23

def k0_off3 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25600_i32 : BitVec 32 := 25600#32
  let v2 : BitVec 32 := Scalar.muli v1 c25600_i32
  let c0_i32_66 : BitVec 32 := 0#32
  ![v2.toNat, 0]
def k0_off4 (i : grid0.Coords) : Fin 4 → Nat :=
  let arg1 : BitVec 32 := BitVec.ofNat 32 (i 1).val
  let c0_i32_24 : BitVec 32 := 0#32
  let c0_i32_67 : BitVec 32 := 0#32
  let c0_i32_68 : BitVec 32 := 0#32
  ![arg1.toNat, 0, 0, 0]
def k0_off5 (i : grid0.Coords) : Fin 4 → Nat :=
  let arg1 : BitVec 32 := BitVec.ofNat 32 (i 1).val
  let c0_i32_26 : BitVec 32 := 0#32
  let c0_i32_27 : BitVec 32 := 0#32
  let c0_i32_28 : BitVec 32 := 0#32
  ![arg1.toNat, 0, 0, 0]
def k0_off6 (i : grid0.Coords) (k0_t1 : Fin k0_t1_loop.trips) (c0_i32_19 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25600_i32 : BitVec 32 := 25600#32
  let v2 : BitVec 32 := Scalar.muli v1 c25600_i32
  let c0_i32_7 : BitVec 32 := 0#32
  let c1_i32_8 : BitVec 32 := 1#32
  let arg15 : BitVec 32 := Scf.iv c0_i32_7 c1_i32_8 k0_t1
  let c2_i32_18 : BitVec 32 := 2#32
  let v16 : BitVec 32 := Scalar.muli arg15 c2_i32_18
  let v17 : BitVec 32 := Scalar.addi v16 c0_i32_19
  let c128_i32 : BitVec 32 := 128#32
  let v32 : BitVec 32 := Scalar.muli v17 c128_i32
  let v33 : BitVec 32 := Scalar.addi v2 v32
  let c0_i32_37 : BitVec 32 := 0#32
  ![v33.toNat, 0]
def k0_cond2 (k0_t1 : Fin k0_t1_loop.trips) : BitVec 1 :=
  let c0_i32_7 : BitVec 32 := 0#32
  let c1_i32_8 : BitVec 32 := 1#32
  let arg15 : BitVec 32 := Scf.iv c0_i32_7 c1_i32_8 k0_t1
  let c99_i32 : BitVec 32 := 99#32
  let v37 : BitVec 1 := Scalar.cmpi .slt arg15 c99_i32
  let v38 : BitVec 32 := Scalar.extui v37
  let c0_i32_40 : BitVec 32 := 0#32
  let v39 : BitVec 1 := Scalar.cmpi .ne v38 c0_i32_40
  v39

def k0_off7 (k0_t1 : Fin k0_t1_loop.trips) : Fin 2 → Nat :=
  let c0_i32_7 : BitVec 32 := 0#32
  let c1_i32_8 : BitVec 32 := 1#32
  let arg15 : BitVec 32 := Scf.iv c0_i32_7 c1_i32_8 k0_t1
  let c2_i32_18 : BitVec 32 := 2#32
  let v16 : BitVec 32 := Scalar.muli arg15 c2_i32_18
  let c0_i32_19 : BitVec 32 := 0#32
  let v17 : BitVec 32 := Scalar.addi v16 c0_i32_19
  let c2_i32_66 : BitVec 32 := 2#32
  let v64 : BitVec 32 := Scalar.addi v17 c2_i32_66
  let c0_i32_67 : BitVec 32 := 0#32
  ![v64.toNat, 0]
def k0_cond3 (k0_t1 : Fin k0_t1_loop.trips) : BitVec 1 :=
  let c0_i32_7 : BitVec 32 := 0#32
  let c1_i32_8 : BitVec 32 := 1#32
  let arg15 : BitVec 32 := Scf.iv c0_i32_7 c1_i32_8 k0_t1
  let c0_i32_46 : BitVec 32 := 0#32
  let v45 : BitVec 1 := Scalar.cmpi .sgt arg15 c0_i32_46
  let v46 : BitVec 32 := Scalar.extui v45
  let c0_i32_48 : BitVec 32 := 0#32
  let v47 : BitVec 1 := Scalar.cmpi .ne v46 c0_i32_48
  v47

def k0_off8 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25600_i32 : BitVec 32 := 25600#32
  let v2 : BitVec 32 := Scalar.muli v1 c25600_i32
  let c0_i32_66 : BitVec 32 := 0#32
  ![v2.toNat, 0]
def k0_off9 (i : grid0.Coords) : Fin 4 → Nat :=
  let arg1 : BitVec 32 := BitVec.ofNat 32 (i 1).val
  let c1_i32_47 : BitVec 32 := 1#32
  let c0_i32_67 : BitVec 32 := 0#32
  let c0_i32_68 : BitVec 32 := 0#32
  ![arg1.toNat, 1, 0, 0]
def k0_off10 (i : grid0.Coords) : Fin 4 → Nat :=
  let arg1 : BitVec 32 := BitVec.ofNat 32 (i 1).val
  let c1_i32_49 : BitVec 32 := 1#32
  let c0_i32_50 : BitVec 32 := 0#32
  let c0_i32_51 : BitVec 32 := 0#32
  ![arg1.toNat, 1, 0, 0]
def k0_cond4 (k0_t1 : Fin k0_t1_loop.trips) : BitVec 1 :=
  let c0_i32_7 : BitVec 32 := 0#32
  let c1_i32_8 : BitVec 32 := 1#32
  let arg15 : BitVec 32 := Scf.iv c0_i32_7 c1_i32_8 k0_t1
  let c99_i32_64 : BitVec 32 := 99#32
  let v61 : BitVec 1 := Scalar.cmpi .slt arg15 c99_i32_64
  let v62 : BitVec 32 := Scalar.extui v61
  let c0_i32_65 : BitVec 32 := 0#32
  let v63 : BitVec 1 := Scalar.cmpi .ne v62 c0_i32_65
  v63

def k0_off11 (k0_t1 : Fin k0_t1_loop.trips) : Fin 2 → Nat :=
  let c0_i32_7 : BitVec 32 := 0#32
  let c1_i32_8 : BitVec 32 := 1#32
  let arg15 : BitVec 32 := Scf.iv c0_i32_7 c1_i32_8 k0_t1
  let c2_i32_41 : BitVec 32 := 2#32
  let v40 : BitVec 32 := Scalar.muli arg15 c2_i32_41
  let c1_i32_42 : BitVec 32 := 1#32
  let v41 : BitVec 32 := Scalar.addi v40 c1_i32_42
  let c2_i32_66 : BitVec 32 := 2#32
  let v64 : BitVec 32 := Scalar.addi v41 c2_i32_66
  let c0_i32_67 : BitVec 32 := 0#32
  ![v64.toNat, 0]
def k0_off12 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25600_i32 : BitVec 32 := 25600#32
  let v2 : BitVec 32 := Scalar.muli v1 c25600_i32
  let c0_i32_11 : BitVec 32 := 0#32
  ![v2.toNat, 0]
def k0_off13 (i : grid0.Coords) : Fin 4 → Nat :=
  let arg1 : BitVec 32 := BitVec.ofNat 32 (i 1).val
  let c0_i32_10 : BitVec 32 := 0#32
  let c0_i32_12 : BitVec 32 := 0#32
  let c0_i32_13 : BitVec 32 := 0#32
  ![arg1.toNat, 0, 0, 0]
def k0_off14 (i : grid0.Coords) : Fin 4 → Nat :=
  let arg1 : BitVec 32 := BitVec.ofNat 32 (i 1).val
  let c1_i32_14 : BitVec 32 := 1#32
  let c0_i32_16 : BitVec 32 := 0#32
  let c0_i32_17 : BitVec 32 := 0#32
  ![arg1.toNat, 1, 0, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== Reference.lean ====
abbrev S4096x200 : Shape := ⟨2, ![4096, 200]⟩
abbrev S100000x128 : Shape := ⟨2, ![100000, 128]⟩
abbrev S_ : Shape := ⟨0, ![]⟩
abbrev S4096x200x1 : Shape := ⟨3, ![4096, 200, 1]⟩
abbrev S1 : Shape := ⟨1, ![1]⟩
abbrev S1x1x1 : Shape := ⟨3, ![1, 1, 1]⟩
abbrev S4096x200x128 : Shape := ⟨3, ![4096, 200, 128]⟩

abbrev nBuf : Space → Nat
  | .hbm => 25
  | .vmem => 0
  | .smem => 0
  | _ => 0

abbrev bufTy : (tb : Table) → Fin (tcTables nBuf tb) → BufTy
  | .hbm, ⟨0, _⟩ => ⟨S4096x200, .i32⟩
  | .hbm, ⟨1, _⟩ => ⟨S100000x128, .f32⟩
  | .hbm, ⟨2, _⟩ => ⟨S_, .i32⟩
  | .hbm, ⟨3, _⟩ => ⟨S4096x200, .i32⟩
  | .hbm, ⟨4, _⟩ => ⟨S4096x200, .i1⟩
  | .hbm, ⟨5, _⟩ => ⟨S_, .i32⟩
  | .hbm, ⟨6, _⟩ => ⟨S4096x200, .i32⟩
  | .hbm, ⟨7, _⟩ => ⟨S4096x200, .i32⟩
  | .hbm, ⟨8, _⟩ => ⟨S4096x200, .i32⟩
  | .hbm, ⟨9, _⟩ => ⟨S4096x200x1, .i32⟩
  | .hbm, ⟨10, _⟩ => ⟨S1, .i32⟩
  | .hbm, ⟨11, _⟩ => ⟨S_, .i32⟩
  | .hbm, ⟨12, _⟩ => ⟨S4096x200x1, .i32⟩
  | .hbm, ⟨13, _⟩ => ⟨S4096x200x1, .i1⟩
  | .hbm, ⟨14, _⟩ => ⟨S1x1x1, .i32⟩
  | .hbm, ⟨15, _⟩ => ⟨S4096x200x1, .i32⟩
  | .hbm, ⟨16, _⟩ => ⟨S4096x200x1, .i1⟩
  | .hbm, ⟨17, _⟩ => ⟨S4096x200x1, .i1⟩
  | .hbm, ⟨18, _⟩ => ⟨S_, .i1⟩
  | .hbm, ⟨19, _⟩ => ⟨S4096x200, .i1⟩
  | .hbm, ⟨20, _⟩ => ⟨S4096x200x128, .f32⟩
  | .hbm, ⟨21, _⟩ => ⟨S4096x200x128, .i1⟩
  | .hbm, ⟨22, _⟩ => ⟨S_, .f32⟩
  | .hbm, ⟨23, _⟩ => ⟨S4096x200x128, .f32⟩
  | .hbm, ⟨24, _⟩ => ⟨S4096x200x128, .f32⟩
  | _, _ => ⟨S4096x200, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩

abbrev nD : Nat := 1
abbrev τ : Topo := Topo.v7x

variable {F : FTy → Type} [FloatOps F]
-- ==== Proof.Layout.lean ====
/-
  The kernel looks up 819200 rows of a table: 32 tasks, one on each vector subcore of two SparseCores. This module names
  the pieces of the buffers a task addresses — its 200 lists of 128 row numbers, its 200 blocks of 128 rows of the result,
  its two banks of its SparseCore's shared vector memory — says which elements each of them has, and states what the call
  is to leave in the result: at row `r`, the row of the table which the `r`-th row number names.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Pipeline.ValueKit.Geometry
public import Idealize.ShloMosaic.Lib.ValueIdxCore
public import Idealize.ShloMosaic.Lib.Tactic
public import proofs.«01_k».proof.Proof.Gen.KernelIdeal
public import proofs.«01_k».proof.Proof.Gen.KernelIdeal.Skeleton

@[expose] public section

noncomputable section

namespace Cert.Proof.Lookup

open Cert.KernelIdeal Cert.KernelIdeal.Gen

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3)

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The launch's semaphores are distinct and none of them a task's scratch; the shared scratch is no task's own. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The ghost state: the handshakes' rounds and the transfers' counters. -/
abbrev UH : Type := URounds (GSem nD τ sig) ℕ
abbrev UU : Type := UH × Counters

local notation "𝕄" => MT nD τ sig (SparseCore.Cfg.HIx 1) (Elt F) ℕ UU ℕ

abbrev EH : Emb UH (MT nD τ sig (SparseCore.Cfg.HIx 1) (Elt F) ℕ UU ℕ) := embL

/-! ## The buffers -/

/-- The lookups `x`, the table, the lookups as 32 × 200 lists of 128, the rows looked up, and the result. -/
abbrev aLoc (d : Dev nD) : Loc nD τ sig := (SparseCore.T d).loc main_arg0
abbrev tLoc (d : Dev nD) : Loc nD τ sig := (SparseCore.T d).loc main_arg1
abbrev iLoc (d : Dev nD) : Loc nD τ sig := (SparseCore.T d).loc main_v0
abbrev oLoc (d : Dev nD) : Loc nD τ sig := (SparseCore.T d).loc main_v1
abbrev rLoc (d : Dev nD) : Loc nD τ sig := (SparseCore.T d).loc main_v2

abbrev iV : Memref sig .scVector .hbm S32x200x128 .i32 := Memref.whole main_v0_scv
abbrev tV : Memref sig .scVector .hbm S100000x128 .f32 := Memref.whole main_arg1_scv
abbrev oV : Memref sig .scVector .hbm S819200x128 .f32 := Memref.whole main_v1_scv
abbrev sV : Memref sig .scVector .vmem S200x128 .i32 := Memref.whole cc0_scratch0
abbrev shV : Memref sig .scVector .shared S16x2x128x128 .f32 := Memref.whole cc0_scratch3
/-- The two row buffers of a subcore. -/
abbrev r0V : Memref sig .scVector .vmem S128x128 .f32 := Memref.whole cc0_scratch1
abbrev r1V : Memref sig .scVector .vmem S128x128 .f32 := Memref.whole cc0_scratch2

/-- The SparseCore and the subcore of a task, as the topology numbers them. -/
abbrev cV (L : grid0.Coords) : Fin τ.nSC := (L 0).castLE hcore0
abbrev jV (L : grid0.Coords) : Fin τ.nSub := (L 1).castLE hsub0
abbrev thr (d : Dev nD) (L : grid0.Coords) : Thread nD τ := V d (cV L) (jV L)

/-- The task's coordinates from its two numbers. -/
def coordsV (c : Fin (grid0.bound 0)) (s : Fin (grid0.bound 1)) : grid0.Coords :=
  fun | 0 => c | 1 => s | ⟨_ + 2, h⟩ => absurd h (Nat.not_lt.2 (Nat.le_add_left _ _))

theorem lt0 (L : grid0.Coords) : (L 0).val < 2 := (L 0).isLt
theorem lt1 (L : grid0.Coords) : (L 1).val < 16 := (L 1).isLt

/-! ## The pieces a task addresses -/

/-- A 128-row block of the result at an offset. -/
abbrev outAt (o : Fin 2 → ℕ) (h : ∀ a, o a + S128x128.size a ≤ S819200x128.size a) : Memref sig .scVector .hbm S128x128 .f32 :=
  oV.slice (Rect.unit (s := S819200x128) o S128x128.size h) (fun _ => rfl)
/-- A bank of the shared memory at an offset. -/
abbrev bankAt (o : Fin 4 → ℕ) (h : ∀ a, o a + S1x1x128x128.size a ≤ S16x2x128x128.size a) : Memref sig .scVector .shared S128x128 .f32 :=
  (shV.slice (Rect.unit (s := S16x2x128x128) o S1x1x128x128.size h) (fun _ => rfl)).squeeze S128x128 squeezes_S1x1x128x128_S128x128
/-- A list of 128 row numbers, of the task's 200, at an offset. -/
abbrev listAt (o : Fin 2 → ℕ) (h : ∀ a, o a + S1x128.size a ≤ S200x128.size a) : Memref sig .scVector .vmem S128 .i32 :=
  (sV.slice (Rect.unit (s := S200x128) o S1x128.size h) (fun _ => rfl)).squeeze S128 squeezes_S1x128_S128
/-- The 200 lists of a task, at an offset. -/
abbrev inAt (o : Fin 3 → ℕ) (h : ∀ a, o a + S1x200x128.size a ≤ S32x200x128.size a) : Memref sig .scVector .hbm S200x128 .i32 :=
  (iV.slice (Rect.unit (s := S32x200x128) o S1x200x128.size h) (fun _ => rfl)).squeeze S200x128 squeezes_S1x200x128_S200x128
/-- All of the table, as the gathers address it. -/
abbrev tAll : Memref sig .scVector .hbm S100000x128 .f32 :=
  tV.slice (Rect.unit (s := S100000x128) ![0, 0] S100000x128.size inb_S100000x128_S100000x128_0_0) (fun _ => rfl)

abbrev outOff (L : grid0.Coords) (n : ℕ) : Fin 2 → ℕ := ![51200 * (L 1).val + 25600 * (L 0).val + 128 * n, 0]
abbrev bankOff (L : grid0.Coords) (b : ℕ) : Fin 4 → ℕ := ![(L 1).val, b, 0, 0]
abbrev listOff (n : ℕ) : Fin 2 → ℕ := ![n, 0]
abbrev inOff (L : grid0.Coords) : Fin 3 → ℕ := ![2 * (L 1).val + (L 0).val, 0, 0]

theorem outOff_inb (L : grid0.Coords) (n : Fin 200) : ∀ a, outOff L n.val a + S128x128.size a ≤ S819200x128.size a := by
  have h0 := lt0 L; have h1 := lt1 L; have hn := n.isLt
  intro a; match a with
  | 0 => show 51200 * (L 1).val + 25600 * (L 0).val + 128 * n.val + 128 ≤ 819200; omega
  | 1 => show 0 + 128 ≤ 128; omega
theorem bankOff_inb (L : grid0.Coords) (b : Fin 2) : ∀ a, bankOff L b.val a + S1x1x128x128.size a ≤ S16x2x128x128.size a := by
  have h1 := lt1 L; have hb := b.isLt
  intro a; match a with
  | 0 => show (L 1).val + 1 ≤ 16; omega
  | 1 => show b.val + 1 ≤ 2; omega
  | 2 => show 0 + 128 ≤ 128; omega
  | 3 => show 0 + 128 ≤ 128; omega
theorem listOff_inb (n : Fin 200) : ∀ a, listOff n.val a + S1x128.size a ≤ S200x128.size a := by
  have hn := n.isLt
  intro a; match a with
  | 0 => show n.val + 1 ≤ 200; omega
  | 1 => show 0 + 128 ≤ 128; omega
theorem inOff_inb (L : grid0.Coords) : ∀ a, inOff L a + S1x200x128.size a ≤ S32x200x128.size a := by
  have h0 := lt0 L; have h1 := lt1 L
  intro a; match a with
  | 0 => show 2 * (L 1).val + (L 0).val + 1 ≤ 32; omega
  | 1 => show 0 + 200 ≤ 200; omega
  | 2 => show 0 + 128 ≤ 128; omega

/-- Block `n` of the task's 200 in the result, its bank `b`, its list `n` and all its lists. -/
abbrev outM (L : grid0.Coords) (n : Fin 200) := outAt (outOff L n.val) (outOff_inb L n)
abbrev bankM (L : grid0.Coords) (b : Fin 2) := bankAt (bankOff L b.val) (bankOff_inb L b)
abbrev listM (n : Fin 200) := listAt (listOff n.val) (listOff_inb n)
abbrev inM (L : grid0.Coords) := inAt (inOff L) (inOff_inb L)

/-! ## Their elements -/

/-- The elements of block `n` of the task's part of the result: 128 rows. -/
theorem mem_outM (L : grid0.Coords) (n : Fin 200) (y : S819200x128.Idx) :
    y ∈ (outM L n).view.set ↔ (y 0).val / 128 = 400 * (L 1).val + 200 * (L 0).val + n.val := by
  have h : (outM L n).view.set = (Rect.unit (s := S819200x128) (outOff L n.val) S128x128.size (outOff_inb L n)).set := View.set_slice_whole _ _
  rw [h, Rect.mem_set_unit]
  constructor
  · intro h; have := h 0
    have e : outOff L n.val 0 = 51200 * (L 1).val + 25600 * (L 0).val + 128 * n.val := rfl
    have e' : S128x128.size 0 = 128 := rfl
    rw [e, e'] at this; omega
  · intro h a; match a with
    | 0 =>
      show 51200 * (L 1).val + 25600 * (L 0).val + 128 * n.val ≤ (y 0).val ∧ (y 0).val < 51200 * (L 1).val + 25600 * (L 0).val + 128 * n.val + 128
      omega
    | 1 => exact ⟨Nat.zero_le _, by have := (y 1).isLt; exact lt_of_lt_of_eq this (Nat.zero_add _).symm⟩

/-- The elements of the task's bank `b`. -/
theorem mem_bankM (L : grid0.Coords) (b : Fin 2) (y : S16x2x128x128.Idx) :
    y ∈ (bankM L b).view.set ↔ (y 0).val = (L 1).val ∧ (y 1).val = b.val := by
  have h : (bankM L b).view.set = (Rect.unit (s := S16x2x128x128) (bankOff L b.val) S1x1x128x128.size (bankOff_inb L b)).set :=
    (View.set_reshape _ _).trans (View.set_slice_whole _ _)
  rw [h, Rect.mem_set_unit]
  constructor
  · intro h; have h0 := h 0; have h1 := h 1
    have e : bankOff L b.val 0 = (L 1).val := rfl
    have e1 : bankOff L b.val 1 = b.val := rfl
    have e' : S1x1x128x128.size 0 = 1 := rfl
    have e1' : S1x1x128x128.size 1 = 1 := rfl
    rw [e, e'] at h0; rw [e1, e1'] at h1; omega
  · rintro ⟨h0, h1⟩ a; match a with
    | 0 => show (L 1).val ≤ (y 0).val ∧ (y 0).val < (L 1).val + 1; omega
    | 1 => show b.val ≤ (y 1).val ∧ (y 1).val < b.val + 1; omega
    | 2 => exact ⟨Nat.zero_le _, by have := (y 2).isLt; exact lt_of_lt_of_eq this (Nat.zero_add _).symm⟩
    | 3 => exact ⟨Nat.zero_le _, by have := (y 3).isLt; exact lt_of_lt_of_eq this (Nat.zero_add _).symm⟩

/-- The elements of the task's lists in the lookups. -/
theorem mem_inM (L : grid0.Coords) (y : S32x200x128.Idx) : y ∈ (inM L).view.set ↔ (y 0).val = 2 * (L 1).val + (L 0).val := by
  have h : (inM L).view.set = (Rect.unit (s := S32x200x128) (inOff L) S1x200x128.size (inOff_inb L)).set :=
    (View.set_reshape _ _).trans (View.set_slice_whole _ _)
  rw [h, Rect.mem_set_unit]
  constructor
  · intro h; have h0 := h 0
    have e : inOff L 0 = 2 * (L 1).val + (L 0).val := rfl
    have e' : S1x200x128.size 0 = 1 := rfl
    rw [e, e'] at h0; omega
  · rintro h0 a; match a with
    | 0 => show 2 * (L 1).val + (L 0).val ≤ (y 0).val ∧ (y 0).val < 2 * (L 1).val + (L 0).val + 1; omega
    | 1 => exact ⟨Nat.zero_le _, by have := (y 1).isLt; exact lt_of_lt_of_eq this (Nat.zero_add _).symm⟩
    | 2 => exact ⟨Nat.zero_le _, by have := (y 2).isLt; exact lt_of_lt_of_eq this (Nat.zero_add _).symm⟩

/-- The gathers' view of the table is all of it. -/
theorem set_tAll : tAll.view.set = (Finset.univ : Finset S100000x128.Idx) := by
  have h : tAll.view.set = (Rect.unit (s := S100000x128) ![0, 0] S100000x128.size inb_S100000x128_S100000x128_0_0).set := View.set_slice_whole _ _
  rw [h]; ext y
  simp only [Finset.mem_univ, iff_true, Rect.mem_set_unit]
  intro a; match a with
  | 0 => exact ⟨Nat.zero_le _, by have := (y 0).isLt; exact lt_of_lt_of_eq this (Nat.zero_add _).symm⟩
  | 1 => exact ⟨Nat.zero_le _, by have := (y 1).isLt; exact lt_of_lt_of_eq this (Nat.zero_add _).symm⟩

/-! ## What the call is to leave -/

/-- Row `n` of a list of `100000`, at column `l`, for a word `v`: reduced into range, so that it is a function of every
    word; of a word in range it is that row. -/
abbrev tix (v : BitVec 32) (l : Fin 128) : S100000x128.Idx := ix2 (⟨v.toNat % 100000, Nat.mod_lt _ (by decide)⟩ : Fin 100000) l

/-- Where row `r` of the result has its row number: of which task, which list, and where in it. -/
abbrev xix (r : Fin 819200) : S32x200x128.Idx :=
  ix3 (⟨r.val / 25600, by have := r.isLt; omega⟩ : Fin 32) (⟨r.val / 128 % 200, by omega⟩ : Fin 200) (⟨r.val % 128, by omega⟩ : Fin 128)

/-- The rows looked up: at row `r`, the table's row which the `r`-th row number of `X` names. -/
def rowsOf {α : Type} (X : S32x200x128.Idx → BitVec 32) (Tb : S100000x128.Idx → α) : S819200x128.Idx → α :=
  fun y => Tb (tix (X (xix (y 0))) (y 1))

/-- The row numbers a task holds: its lists. -/
abbrev lists (L : grid0.Coords) (X : S32x200x128.Idx → Elt F .i32) : S200x128.Idx → Elt F .i32 := (inM L).view.read (Elt F) X

/-! ## What a task gathers is what the call is to leave -/

theorem emb_tAll (y : S100000x128.Idx) : tAll.view.emb y = y := by
  funext a; refine Fin.ext ?_
  refine (Rect.emb_apply _ _ _).trans ?_
  match a with
  | 0 => show 0 + 1 * (y 0).val = _; omega
  | 1 => show 0 + 1 * (y 1).val = _; omega

theorem emb_outM (L : grid0.Coords) (n : Fin 200) (x : S128x128.Idx) :
    ((outM L n).view.emb x 0).val = 51200 * (L 1).val + 25600 * (L 0).val + 128 * n.val + (x 0).val ∧ ((outM L n).view.emb x 1).val = (x 1).val := by
  constructor
  · refine (Rect.emb_apply _ _ _).trans ?_
    show 51200 * (L 1).val + 25600 * (L 0).val + 128 * n.val + 1 * (x 0).val = _; omega
  · refine (Rect.emb_apply _ _ _).trans ?_
    show 0 + 1 * (x 1).val = _; omega

theorem emb_listM (n : Fin 200) (z : S128.Idx) : (listM n).view.emb z = ix2 n (z 0 : Fin 128) := by
  have e : Shape.reshapeEquiv (squeezes_S1x128_S128).numel_eq z = (ix2 (0 : Fin 1) (z 0 : Fin 128) : S1x128.Idx) := by
    refine Shape.reshapeEquiv_eq_of_rowMajor _ ?_
    rw [Shape.rowMajor_val_two, Shape.rowMajor_val_one]
    show 0 * 128 + (z 0).val = _; omega
  have e' : (listM n).view.emb z = (Rect.unit (s := S200x128) (listOff n.val) S1x128.size (listOff_inb n)).emb (ix2 (0 : Fin 1) (z 0 : Fin 128) : S1x128.Idx) :=
    congrArg (Rect.unit (s := S200x128) (listOff n.val) S1x128.size (listOff_inb n)).emb e
  rw [e']; funext a; refine Fin.ext ?_
  refine (Rect.emb_apply _ _ _).trans ?_
  match a with
  | 0 => show n.val + 1 * 0 = n.val; omega
  | 1 => show 0 + 1 * (z 0).val = (z 0).val; omega

theorem emb_inM (L : grid0.Coords) (w : S200x128.Idx) :
    (inM L).view.emb w = ix3 (⟨2 * (L 1).val + (L 0).val, by have := lt0 L; have := lt1 L; omega⟩ : Fin 32) (w 0 : Fin 200) (w 1 : Fin 128) := by
  have e : Shape.reshapeEquiv (squeezes_S1x200x128_S200x128).numel_eq w = (ix3 (0 : Fin 1) (w 0 : Fin 200) (w 1 : Fin 128) : S1x200x128.Idx) := by
    refine Shape.reshapeEquiv_eq_of_rowMajor _ ?_
    rw [Shape.rowMajor_val_three, Shape.rowMajor_val_two]
    show (0 * 200 + (w 0).val) * 128 + (w 1).val = (w 0).val * 128 + (w 1).val; omega
  have e' : (inM L).view.emb w = (Rect.unit (s := S32x200x128) (inOff L) S1x200x128.size (inOff_inb L)).emb (ix3 (0 : Fin 1) (w 0 : Fin 200) (w 1 : Fin 128) : S1x200x128.Idx) :=
    congrArg (Rect.unit (s := S32x200x128) (inOff L) S1x200x128.size (inOff_inb L)).emb e
  rw [e']; funext a; refine Fin.ext ?_
  refine (Rect.emb_apply _ _ _).trans ?_
  match a with
  | 0 => show 2 * (L 1).val + (L 0).val + 1 * 0 = 2 * (L 1).val + (L 0).val; omega
  | 1 => show 0 + 1 * (w 0).val = (w 0).val; omega
  | 2 => show 0 + 1 * (w 1).val = (w 1).val; omega

/-- Word `z` of the task's list `n`. -/
theorem list_word (L : grid0.Coords) (n : Fin 200) (X : S32x200x128.Idx → Elt F .i32) (z : S128.Idx) :
    (listM n).view.read (Elt F) (lists (F := F) L X) z
      = X (ix3 (⟨2 * (L 1).val + (L 0).val, by have := lt0 L; have := lt1 L; omega⟩ : Fin 32) n (z 0 : Fin 128)) := by
  refine ((View.read_apply _ _).trans (cast_eq _ _)).trans ?_
  refine (congrArg (lists (F := F) L X) (emb_listM n z)).trans ?_
  refine ((View.read_apply _ _).trans (cast_eq _ _)).trans ?_
  exact congrArg X (emb_inM L _)

/-- The words of a list are row numbers of the table when those of the lookups are. -/
theorem list_inb (L : grid0.Coords) (n : Fin 200) (X : S32x200x128.Idx → Elt F .i32) (hX : ∀ j, BitVec.toNat (X j) < 100000) :
    ∀ z, ((listM n).view.read (Elt F) (lists (F := F) L X) z).toNat < S100000x128.size gathers_S100000x128_S128x128.axis := by
  intro z
  rw [list_word]
  exact hX _

/-- Gathering by list `n` is reading block `n` of the rows looked up. -/
theorem gather_eq (L : grid0.Coords) (n : Fin 200) (X : S32x200x128.Idx → Elt F .i32) (hX : ∀ j, BitVec.toNat (X j) < 100000)
    (Tb : S100000x128.Idx → Elt F .f32) (hn : S128.numel = S128x128.size gathers_S100000x128_S128x128.axis')
    (hin : ∀ z, ((listM n).view.read (Elt F) (lists (F := F) L X) z).toNat < S100000x128.size gathers_S100000x128_S128x128.axis) :
    SparseCore.gatherPayload (F := F) (e := .f32) gathers_S100000x128_S128x128 (tAll.view.read (Elt F) Tb)
        (SparseCore.rows ((listM n).view.read (Elt F) (lists (F := F) L X)) hn hin)
      = (outM L n).view.read (Elt F) (rowsOf (α := Elt F .f32) X Tb) := by
  funext x
  have h0 := lt0 L; have h1 := lt1 L; have hn' := n.isLt
  have hx : (x 0).val < 128 := (x 0).isLt
  unfold SparseCore.gatherPayload
  refine (((View.read_apply _ _).trans (cast_eq _ _)).trans ?_).trans ((View.read_apply _ _).trans (cast_eq _ _)).symm
  obtain ⟨e0, e1⟩ := emb_outM L n x
  refine (congrArg Tb (emb_tAll _)).trans ?_
  unfold rowsOf
  refine congrArg Tb ?_
  have ex : xix ((outM L n).view.emb x 0) = ix3 (⟨2 * (L 1).val + (L 0).val, by omega⟩ : Fin 32) n (x 0 : Fin 128) := by
    funext a; refine Fin.ext ?_
    match a with
    | 0 => show ((outM L n).view.emb x 0).val / 25600 = 2 * (L 1).val + (L 0).val; omega
    | 1 => show ((outM L n).view.emb x 0).val / 128 % 200 = n.val; omega
    | 2 => show ((outM L n).view.emb x 0).val % 128 = (x 0).val; omega
  rw [ex]
  funext a
  match a with
  | 0 =>
    refine (Shape.Gathers.idx_axis gathers_S100000x128_S128x128 _ x).trans ?_
    refine Fin.ext ?_
    show BitVec.toNat ((listM n).view.read (Elt F) (lists (F := F) L X) (S128.rowMajor.symm ((x 0).cast hn.symm))) = _
    rw [list_word]
    have ez : (S128.rowMajor.symm ((x 0).cast hn.symm) 0 : Fin 128) = (x 0 : Fin 128) := by
      refine Fin.ext ?_
      have := Shape.rowMajor_val_one (S128.rowMajor.symm ((x 0).cast hn.symm))
      rw [Equiv.apply_symm_apply] at this
      exact this.symm
    rw [ez]
    exact (Nat.mod_eq_of_lt (hX _)).symm
  | 1 =>
    refine Fin.ext ?_
    refine (Shape.Gathers.idx_of_ne gathers_S100000x128_S128x128 _ x 1 (by decide)).trans ?_
    exact e1.symm

end Cert.Proof.Lookup

end
-- ==== Proof.Program.lean ====
/-
  The kernel's loop runs the same steps twice a trip, once on each bank. This module writes those steps once, as a program
  in the bank's buffers and semaphores, and shows that a trip of the printed kernel is these steps on bank 0 and then on
  bank 1.
-/
module

public import proofs.«01_k».proof.Proof.Layout

@[expose] public section

noncomputable section

namespace Cert.Proof.Lookup

open Cert.KernelIdeal Cert.KernelIdeal.Gen

open Idealize.ShloMosaic Idealize.SL.Sem

variable {F : FTy → Type} [FloatOps F]

/-- The second part of one bank's steps: copy the row buffer `rw` into the bank and wait for the copy (`cs`); start the
    store of the bank to its block of the result (`ds`); where `c2` holds, start the gather of a later list (`gs`). -/
def halfTail (i : grid0.Coords) (rw : Memref sig .scVector .vmem S128x128 .f32) (hrw : rw.IsWhole) (gs cs ds : DmaSem sig)
    (bo : Fin 4 → ℕ) (hbo : ∀ a, bo a + S1x1x128x128.size a ≤ S16x2x128x128.size a)
    (oo : Fin 2 → ℕ) (hoo : ∀ a, oo a + S128x128.size a ≤ S819200x128.size a)
    (c2 : BitVec 1) (lo : Fin 2 → ℕ) (hlo : c2 = 1#1 → ∀ a, lo a + S1x128.size a ≤ S200x128.size a) :
    Prog (TpuEff nD τ sig (Elt F) Λ₀ (.scVector ((i 0).castLE hcore0) ((i 1).castLE hsub0))) PUnit := do
  Prog.lift (.enqueueDma rw (.here (bankAt bo hbo)) (.dma cs) hrw.wordExact ((View.wordExact_bits rfl).reshape _ _) ⟨Or.inl rfl, trivial⟩)
  Prog.lift (.waitDma2 cs rw (bankAt bo hbo) hrw.wordExact ((View.wordExact_bits rfl).reshape _ _))
  Prog.lift (.enqueueDma (bankAt bo hbo) (.here (outAt oo hoo)) (.dma ds) ((View.wordExact_bits rfl).reshape _ _) (View.wordExact_bits rfl) ⟨Or.inl rfl, trivial⟩)
  if h : c2 = 1#1 then do
    SparseCore.enqueueIndirectGather rfl tAll rw gathers_S100000x128_S128x128 (listAt lo (hlo h)) rfl gs (View.wordExact_bits rfl) rfl (Or.inl rfl)
    pure ⟨⟩
  else do
    pure ⟨⟩

/-- One bank's part of a trip: wait for the gather into the row buffer (`gs`); where `c1` holds, wait for the earlier store
    out of the bank (`ds`); then `halfTail`. -/
def half (i : grid0.Coords) (rw : Memref sig .scVector .vmem S128x128 .f32) (hrw : rw.IsWhole) (gs cs ds : DmaSem sig)
    (c1 : BitVec 1) (wo : Fin 2 → ℕ) (hwo : c1 = 1#1 → ∀ a, wo a + S128x128.size a ≤ S819200x128.size a)
    (wb : Fin 4 → ℕ) (hwb : c1 = 1#1 → ∀ a, wb a + S1x1x128x128.size a ≤ S16x2x128x128.size a)
    (bo : Fin 4 → ℕ) (hbo : ∀ a, bo a + S1x1x128x128.size a ≤ S16x2x128x128.size a)
    (oo : Fin 2 → ℕ) (hoo : ∀ a, oo a + S128x128.size a ≤ S819200x128.size a)
    (c2 : BitVec 1) (lo : Fin 2 → ℕ) (hlo : c2 = 1#1 → ∀ a, lo a + S1x128.size a ≤ S200x128.size a) :
    Prog (TpuEff nD τ sig (Elt F) Λ₀ (.scVector ((i 0).castLE hcore0) ((i 1).castLE hsub0))) PUnit := do
  SparseCore.waitIndirectGather gs tAll rw (View.wordExact_bits rfl) hrw.wordExact
  if h : c1 = 1#1 then do
    Prog.lift (.waitDma2 ds (bankAt wb (hwb h)) (outAt wo (hwo h)) ((View.wordExact_bits rfl).reshape _ _) (View.wordExact_bits rfl))
    pure ⟨⟩
  else do
    pure ⟨⟩
  halfTail i rw hrw gs cs ds bo hbo oo hoo c2 lo hlo

/-- The steps on bank 0 in trip `k`, as the kernel addresses them. -/
abbrev half0 (i : grid0.Coords) (k : Fin k0_t1_loop.trips) :=
  half (F := F) i r0V (Memref.isWhole_whole _) cc0_scratch4.sem cc0_scratch6.sem cc0_scratch8.sem
    (k0_cond1 k) (k0_off3 i) (fun h => k0_off3_inb i k h) (k0_off4 i) (fun h => k0_off4_inb i k h) (k0_off5 i) (k0_off5_inb i)
    (k0_off6 i k 0#32) (k0_off6_inb i k 0) (k0_cond2 k) (k0_off7 k) (fun h => k0_off7_inb k h)
/-- The steps on bank 1. -/
abbrev half1 (i : grid0.Coords) (k : Fin k0_t1_loop.trips) :=
  half (F := F) i r1V (Memref.isWhole_whole _) cc0_scratch5.sem cc0_scratch7.sem cc0_scratch9.sem
    (k0_cond3 k) (k0_off8 i) (fun h => k0_off8_inb i k h) (k0_off9 i) (fun h => k0_off9_inb i k h) (k0_off10 i) (k0_off10_inb i)
    (k0_off6 i k 1#32) (k0_off6_inb i k 1) (k0_cond4 k) (k0_off11 k) (fun h => k0_off11_inb k h)

set_option maxRecDepth 65536 in
/-- A trip of the kernel's loop is the steps on bank 0 and then on bank 1. -/
theorem body_eq (i : grid0.Coords) (v2 : BitVec 32) (k : Fin k0_t1_loop.trips) (u : Unit) :
    k0_t1_body (F := F) i iV (Memref.isWhole_whole _) tV (Memref.isWhole_whole _) oV (Memref.isWhole_whole _) sV (Memref.isWhole_whole _)
        r0V (Memref.isWhole_whole _) r1V (Memref.isWhole_whole _) shV (Memref.isWhole_whole _)
        cc0_scratch4 cc0_scratch5 cc0_scratch6 cc0_scratch7 cc0_scratch8 cc0_scratch9 cc0_scoped0 v2 k u
      = (half0 (F := F) i k >>= fun _ => half1 (F := F) i k >>= fun _ => pure ()) := by
  unfold k0_t1_body
  rw [k0_part1_eq_skeleton]
  unfold k0_part1_skel half0 half1 half halfTail
  simp only [Prog.bind_assoc, Prog.pure_eq_ret, Prog.bind_ret]
  by_cases h1 : k0_cond1 k = 1#1 <;> by_cases h2 : k0_cond2 k = 1#1 <;> by_cases h3 : k0_cond3 k = 1#1 <;> by_cases h4 : k0_cond4 k = 1#1 <;>
    simp only [h1, h2, h3, h4, dite_true, dite_false, Prog.bind_assoc, Prog.bind_ret] <;> rfl

/-- The conditions, in the trip's number: the first trip has no store to wait for, the last no later list. -/
theorem cond1_iff : ∀ k : Fin k0_t1_loop.trips, k0_cond1 k = 1#1 ↔ 0 < k.val := by decide +kernel
theorem cond2_iff : ∀ k : Fin k0_t1_loop.trips, k0_cond2 k = 1#1 ↔ k.val < 99 := by decide +kernel
theorem cond3_iff : ∀ k : Fin k0_t1_loop.trips, k0_cond3 k = 1#1 ↔ 0 < k.val := by decide +kernel
theorem cond4_iff : ∀ k : Fin k0_t1_loop.trips, k0_cond4 k = 1#1 ↔ k.val < 99 := by decide +kernel
theorem trips_eq : k0_t1_loop.trips = 100 := by decide +kernel

end Cert.Proof.Lookup

end
-- ==== Proof.Trip.lean ====
/-
  One trip of the kernel's loop on one bank: what is in flight before it and after it, and what is done. A gather in
  flight is to deliver the rows of its list; a store in flight is to deliver its block of the result at what the call is
  to leave there.
-/
module

public import proofs.«01_k».proof.Proof.Program

@[expose] public section

noncomputable section

namespace Cert.Proof.Lookup

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (L : grid0.Coords) (X : Buf (Elt F) (iLoc d)) (Tb : Buf (Elt F) (tLoc d))

/-! ## What is held -/

/-- What the call is to leave in the result. -/
abbrev goal (X : Buf (Elt F) (iLoc d)) (Tb : Buf (Elt F) (tLoc d)) : Buf (Elt F) (oLoc d) := rowsOf (α := Elt F .f32) X Tb

/-- Block `n` of the result, at contents `f`. -/
abbrev outPts (n : Fin 200) (f : Buf (Elt F) (oLoc d)) : sProp 𝕄 := oLoc d ↦[(outM L n).view.set]{fullShare} f
/-- The task's bank `b`, at whatever it has. -/
abbrev bankPts (b : Fin 2) : sProp 𝕄 := iprop(∃ f, (bankM L b).view.loc (thr d L) ↦[(bankM L b).view.set]{fullShare} f)
/-- A share of the table. -/
abbrev tblPts (q : PosShare TreeShare) : sProp 𝕄 := tAll.view.loc (thr d L) ↦[tAll.view.set]{q} Tb
/-- A share of some of the task's lists' words. -/
abbrev listPts (I : Finset S200x128.Idx) (qo : PosShare TreeShare) : sProp 𝕄 :=
  (thr d L).loc cc0_scratch0 ↦[I]{qo} (lists (F := F) L X : S200x128.Idx → Elt F .i32)
/-- A row buffer holding block `n` of the rows looked up. -/
abbrev rowsHold (rw : Memref sig .scVector .vmem S128x128 .f32) (n : Fin 200) : sProp 𝕄 :=
  iprop(∃ fd, rw.view.loc (thr d L) ↦[rw.view.set]{fullShare} rw.view.write (Elt F) fd ((outM L n).view.read (Elt F) (goal d X Tb)) Finset.univ)

/-- The gather of list `n` in flight: it delivers the row buffer holding block `n`, its share of the table and the list;
    the rest of the lists stays beside it. -/
abbrev gFlight (rw : Memref sig .scVector .vmem S128x128 .f32) (gs : DmaSem sig) (q qo : PosShare TreeShare) (n : Fin 200) : sProp 𝕄 :=
  iprop(Transfers.Flight countersEmb (thr d L) (.dma gs) (default : HIx 1) rw.view.dmaCredit
      iprop(rowsHold d L X Tb rw n ∗ tblPts d L Tb q ∗ listPts d L X (listM n).view.set qo)
    ∗ listPts d L X (Finset.univ \ (listM n).view.set) qo)
/-- No gather in flight: the row buffer, the shares of the table and of the lists, the semaphore at zero. -/
abbrev gFree (rw : Memref sig .scVector .vmem S128x128 .f32) (gs : DmaSem sig) (q qo : PosShare TreeShare) : sProp 𝕄 :=
  iprop((∃ f, rw.view.loc (thr d L) ↦[rw.view.set]{fullShare} f) ∗ tblPts d L Tb q ∗ listPts d L X Finset.univ qo ∗ semVal (thr d L, .dma gs) 0)
/-- The store of block `n` in flight: it delivers the block at what the call is to leave there, and the bank. -/
abbrev sFlight (ds : DmaSem sig) (b : Fin 2) (n : Fin 200) : sProp 𝕄 :=
  Transfers.Flight countersEmb (thr d L) (.dma ds) (default : HIx 1) (outM L n).view.dmaCredit
    iprop(outPts d L n (goal d X Tb) ∗ bankPts (F := F) d L b)

variable (rw : Memref sig .scVector .vmem S128x128 .f32) (gs cs ds : DmaSem sig)

theorem gather_lands (q qo : PosShare TreeShare) (n : Fin 200) (fd : Buf (Elt F) (rw.view.loc (thr d L))) :
    iprop((rw.view.loc (thr d L) ↦[rw.view.set]{fullShare} rw.view.write (Elt F) fd ((outM L n).view.read (Elt F) (goal d X Tb)) Finset.univ)
        ∗ tblPts d L Tb q ∗ listPts d L X (listM n).view.set qo)
      ⊢ (iprop(rowsHold d L X Tb rw n ∗ tblPts d L Tb q ∗ listPts d L X (listM n).view.set qo) : sProp 𝕄) := by
  iintro ⟨H1, H2, H3⟩
  isplitl [H1]; · iexists _; iexact H1
  isplitl [H2]; · iexact H2
  iexact H3

/-- The gather of list `n` starts. -/
theorem gather_start {α : Type} {Q : α → sProp 𝕄} (hX : ∀ j, BitVec.toNat (X j) < 100000) (hcr : ∀ s' : Shape, sig.dmaCredit .scVector (Kind.table .scVector .vmem) rw.view.buf s' .f32 = s'.numel * EltTy.f32.bits)
    (q qo : PosShare TreeShare) (n : Fin 200)
    {h1 : (Proc.scVector (cV L) (jV L)).kind = .scVector} {h2 : S128.numel = S128x128.size gathers_S100000x128_S128x128.axis'}
    {h3 : tAll.view.WordExact} {h4 : EltTy.f32.bits = 32} {h5 : Space.hbm = .hbm ∨ Space.hbm = .shared}
    (k : PUnit → Prog (TpuEff nD τ sig (Elt F) Λ₀ (.scVector (cV L) (jV L))) α) :
    gFree d L X Tb rw gs q qo
      ⊢ iprop((gFlight d L X Tb rw gs q qo n -∗ wp frame (wpE (defs₀ (F := F)) 𝒱₀ (thr d L) none) Set.univ (k ⟨⟩) Q)
        -∗ wp frame (wpE (defs₀ (F := F)) 𝒱₀ (thr d L) none) Set.univ
            (SparseCore.enqueueIndirectGather h1 tAll rw gathers_S100000x128_S128x128 (listM n) h2 gs h3 h4 h5 >>= k) Q) := by
  have hN := SparseCore.sum_rowCredit_eq_dmaCredit rw gathers_S100000x128_S128x128.axis' hcr
  have hs : 0 < S128x128.numel := by decide
  iintro ⟨⟨%fd, Hr⟩, Ht, Hl, Hg⟩ Hk
  ihave Hl' := (pointsTo_split_subset (ℓ := (thr d L).loc cc0_scratch0) (q := qo) (f := (lists (F := F) L X : S200x128.Idx → Elt F .i32))
    (S := Finset.univ) (Finset.subset_univ (listM n).view.set)).1 $$ Hl
  icases Hl' with ⟨Hl, Hlr⟩
  iapply (SparseCore.wp_indirectGatherLocal (Q := Q) countersEmb 𝒱₀ (thr d L) none (hg := gathers_S100000x128_S128x128) (default : HIx 1)
      rw.view.dmaCredit hN hs (list_inb L n X hX)) $$ [Hr Ht Hl Hg]
  · isplitl [Ht]; · iexact Ht
    isplitl [Hr]; · iexact Hr
    isplitl [Hl]; · iexact Hl
    iexact Hg
  iintro Hfl
  iapply Hk
  isplitl [Hfl]
  · rw [gather_eq L n X hX Tb]
    iapply (Transfers.Flight_mono countersEmb (thr d L) (gather_lands d L X Tb rw q qo n fd))
    iexact Hfl
  iexact Hlr

/-- The gather of list `n` is waited for: the row buffer holds block `n`. -/
theorem gather_wait {α : Type} {Q : α → sProp 𝕄} (q qo : PosShare TreeShare) (n : Fin 200)
    (O : CellTallies nD τ sig (HIx 1)) (W : Waits sig (HIx 1))
    {h1 : tAll.view.WordExact} {h2 : rw.view.WordExact}
    (k : PUnit → Prog (TpuEff nD τ sig (Elt F) Λ₀ (.scVector (cV L) (jV L))) α) :
    iprop(gFlight d L X Tb rw gs q qo n ∗ owes (thr d L) O W ∗ Transfers.MayWaits (thr d L) (default : HIx 1) O)
      ⊢ iprop((iprop(rowsHold d L X Tb rw n ∗ tblPts d L Tb q ∗ listPts d L X Finset.univ qo ∗ semVal (thr d L, .dma gs) 0
            ∗ owes (thr d L) O (insert (SemLoc.dma gs, (default : HIx 1)) W)) -∗ wp frame (wpE (defs₀ (F := F)) 𝒱₀ (thr d L) none) Set.univ (k ⟨⟩) Q)
        -∗ wp frame (wpE (defs₀ (F := F)) 𝒱₀ (thr d L) none) Set.univ (.op (.waitDma2 gs tAll rw h1 h2) k) Q) := by
  iintro ⟨⟨Hfl, Hlr⟩, HO, Hmw⟩ Hk
  iapply (Transfers.wp_waitLocalO (Q := Q) countersEmb 𝒱₀ (thr d L) none (default : HIx 1) (rfl : rw.view.dmaCredit = _)) $$ [Hfl HO Hmw]
  · isplitl [Hfl]; · iexact Hfl
    isplitl [HO]; · iexact HO
    iapply (Transfers.MayWaits.elim (SemLoc.dma gs)) $$ Hmw
  iintro ⟨⟨Hr, Ht, Hl⟩, Hg, HO⟩
  iapply Hk
  isplitl [Hr]; · iexact Hr
  isplitl [Ht]; · iexact Ht
  isplitl [Hl Hlr]
  · iapply (pointsTo_split_subset (ℓ := (thr d L).loc cc0_scratch0) (q := qo) (f := (lists (F := F) L X : S200x128.Idx → Elt F .i32))
      (S := Finset.univ) (Finset.subset_univ (listM n).view.set)).2
    isplitl [Hl]; · iexact Hl
    iexact Hlr
  isplitl [Hg]; · iexact Hg
  iexact HO

/-! ## A trip's state, in its number -/

/-- The number of the list, and of the block, of bank `b` in trip `k`. -/
abbrev num (b : Fin 2) (k : ℕ) (h : k < 100) : Fin 200 := ⟨2 * k + b.val, by omega⟩

/-- Before trip `k`, at the gather's side of bank `b`: the trip's gather in flight, or, after the last, none. -/
def slotG (b : Fin 2) (q qo : PosShare TreeShare) (k : ℕ) : sProp 𝕄 :=
  if h : k < 100 then gFlight d L X Tb rw gs q qo (num b k h) else gFree d L X Tb rw gs q qo
/-- Before trip `k`, at the store's side: the previous trip's store in flight, or, before the first, none. -/
def slotS (b : Fin 2) (k : ℕ) : sProp 𝕄 :=
  if h : 0 < k ∧ k - 1 < 100 then sFlight d L X Tb ds b (num b (k - 1) h.2) else iprop(semVal (thr d L, .dma ds) 0 ∗ bankPts (F := F) d L b)
/-- What trip `k`'s wait for the previous store brings: its block, done. -/
def gotS (b : Fin 2) (k : ℕ) : sProp 𝕄 :=
  if h : 0 < k ∧ k - 1 < 100 then outPts d L (num b (k - 1) h.2) (goal d X Tb) else iprop(emp)

/-- A store that lands leaves in its block what the call is to leave there. -/
theorem store_lands (b : Fin 2) (n : Fin 200) (f₀ : Buf (Elt F) (oLoc d)) (fb : Buf (Elt F) ((bankM L b).view.loc (thr d L)))
    (hb : (bankM L b).view.read (Elt F) fb = (outM L n).view.read (Elt F) (goal d X Tb)) :
    iprop((oLoc d ↦[(outM L n).view.set]{fullShare} (outM L n).view.write (Elt F) f₀ ((bankM L b).view.read (Elt F) fb) Finset.univ)
        ∗ ((bankM L b).view.loc (thr d L) ↦[(bankM L b).view.set]{fullShare} fb))
      ⊢ (iprop(outPts d L n (goal d X Tb) ∗ bankPts (F := F) d L b) : sProp 𝕄) := by
  have hc : ∀ i ∈ (outM L n).view.set,
      ((outM L n).view.write (Elt F) f₀ ((bankM L b).view.read (Elt F) fb) Finset.univ : Buf (Elt F) (oLoc d)) i = goal d X Tb i := by
    intro i hi
    rw [hb, View.write_read_eq_piecewise]
    exact Finset.piecewise_eq_of_mem _ _ _ hi
  iintro ⟨H1, H2⟩
  isplitl [H1]
  · iapply (Entails.of_eq (pointsTo_congr (ℓ := oLoc d) (q := fullShare) (I := (outM L n).view.set) hc))
    iexact H1
  · iexists _; iexact H2

/-- The second part of trip `k` on bank `b`: from a row buffer holding the trip's block and a free bank, the block's store
    is in flight and the next gather, if any. -/
theorem halfTail_wp {α : Type} {Q : α → sProp 𝕄} (hX : ∀ j, BitVec.toNat (X j) < 100000) (hrw : rw.IsWhole)
    (hcr : ∀ s' : Shape, sig.dmaCredit .scVector (Kind.table .scVector .vmem) rw.view.buf s' .f32 = s'.numel * EltTy.f32.bits)
    (q qo : PosShare TreeShare) (b : Fin 2) (k : ℕ) (hk : k < 100) (f₀ : Buf (Elt F) (oLoc d))
    (O : CellTallies nD τ sig (HIx 1)) (W : Waits sig (HIx 1))
    {bo hbo oo hoo c2 lo hlo} (ebo : bo = bankOff L b.val) (eoo : oo = outOff L (2 * k + b.val))
    (hc2 : c2 = 1#1 ↔ k < 99) (elo : c2 = 1#1 → lo = listOff (2 * (k + 1) + b.val))
    (kk : PUnit → Prog (TpuEff nD τ sig (Elt F) Λ₀ (.scVector (cV L) (jV L))) α) :
    iprop(rowsHold d L X Tb rw (num b k hk) ∗ tblPts d L Tb q ∗ listPts d L X Finset.univ qo ∗ semVal (thr d L, .dma gs) 0
        ∗ bankPts (F := F) d L b ∗ semVal (thr d L, .dma ds) 0 ∗ semVal (thr d L, .dma cs) 0 ∗ outPts d L (num b k hk) f₀
        ∗ owes (thr d L) O W ∗ Transfers.MayWaits (thr d L) (default : HIx 1) O)
      ⊢ iprop((iprop(slotG d L X Tb rw gs b q qo (k + 1) ∗ slotS d L X Tb ds b (k + 1) ∗ semVal (thr d L, .dma cs) 0
            ∗ owes (thr d L) O (insert (SemLoc.dma cs, (default : HIx 1)) W)) -∗ wp frame (wpE (defs₀ (F := F)) 𝒱₀ (thr d L) none) Set.univ (kk ⟨⟩) Q)
        -∗ wp frame (wpE (defs₀ (F := F)) 𝒱₀ (thr d L) none) Set.univ
            (halfTail (F := F) L rw hrw gs cs ds bo hbo oo hoo c2 lo hlo >>= kk) Q) := by
  subst ebo eoo
  iintro ⟨⟨%fd, Hr⟩, Ht, Hl, Hg, ⟨%fb, Hb⟩, Hd, Hc, Ho, HO, Hmw⟩ Hk
  unfold halfTail
  simp only [Prog.lift, Prog.bind_op, Prog.bind_ret, Prog.pure_eq_ret, Prog.bind_assoc]
  -- the copy into the bank
  iapply (Transfers.wp_dmaLocal (Q := Q) countersEmb 𝒱₀ (thr d L) none (dst := bankM L b) (Sd := (bankM L b).view.set) (default : HIx 1)
      (bankM L b).view.dmaCredit rfl (View.dmaCredit_pos _ (by decide)) (Finset.Subset.refl _)) $$ [Hr Hb Hc]
  · isplitl [Hr]; · iexact Hr
    isplitl [Hb]; · iexact Hb
    iexact Hc
  iintro Hfl
  iapply (Transfers.wp_waitLocalO (Q := Q) countersEmb 𝒱₀ (thr d L) none (default : HIx 1) (rfl : (bankM L b).view.dmaCredit = _)) $$ [Hfl HO Hmw]
  · isplitl [Hfl]; · iexact Hfl
    isplitl [HO]; · iexact HO
    iapply (Transfers.MayWaits.elim (SemLoc.dma cs)) $$ Hmw
  iintro ⟨⟨Hb, Hr⟩, Hc, HO⟩
  -- the store
  iapply (Transfers.wp_dmaLocal (Q := Q) countersEmb 𝒱₀ (thr d L) none (dst := outM L (num b k hk)) (Sd := (outM L (num b k hk)).view.set) (default : HIx 1)
      (outM L (num b k hk)).view.dmaCredit rfl (View.dmaCredit_pos _ (by decide)) (Finset.Subset.refl _)) $$ [Hb Ho Hd]
  · isplitl [Hb]; · iexact Hb
    isplitl [Ho]; · iexact Ho
    iexact Hd
  iintro Hfl
  ihave Hs := (Transfers.Flight_mono countersEmb (thr d L) (store_lands d L X Tb b (num b k hk) f₀ _ (by
    refine (View.read_write_univ _ _).trans ?_
    exact View.read_write_univ _ _))) $$ Hfl
  ihave Hs' := (Entails.of_eq (show slotS d L X Tb ds b (k + 1) = sFlight d L X Tb ds b (num b k hk) from
    dif_pos (show 0 < k + 1 ∧ k + 1 - 1 < 100 by omega)).symm) $$ Hs
  by_cases h : c2 = 1#1
  · have e := elo h
    subst e
    have hk' : k + 1 < 100 := by have := hc2.mp h; omega
    simp only [dif_pos h, Prog.bind_assoc, Prog.bind_ret]
    iapply (gather_start (Q := Q) d L X Tb rw gs hX hcr q qo (num b (k + 1) hk') kk) $$ [Hr Ht Hl Hg]
    · isplitl [Hr]; · iexists _; iexact Hr
      isplitl [Ht]; · iexact Ht
      isplitl [Hl]; · iexact Hl
      iexact Hg
    iintro Hgf
    iapply Hk
    isplitl [Hgf]
    · iapply (Entails.of_eq (show slotG d L X Tb rw gs b q qo (k + 1) = gFlight d L X Tb rw gs q qo (num b (k + 1) hk') from dif_pos hk').symm)
      iexact Hgf
    isplitl [Hs']; · iexact Hs'
    isplitl [Hc]; · iexact Hc
    iexact HO
  · have hk' : ¬ k + 1 < 100 := fun h' => h (hc2.mpr (by omega))
    simp only [dif_neg h, Prog.bind_ret]
    iapply Hk
    isplitl [Hr Ht Hl Hg]
    · iapply (Entails.of_eq (show slotG d L X Tb rw gs b q qo (k + 1) = gFree d L X Tb rw gs q qo from dif_neg hk').symm)
      isplitl [Hr]; · iexists _; iexact Hr
      isplitl [Ht]; · iexact Ht
      isplitl [Hl]; · iexact Hl
      iexact Hg
    isplitl [Hs']; · iexact Hs'
    isplitl [Hc]; · iexact Hc
    iexact HO

/-- Trip `k` on bank `b`: from the trip's gather in flight and the previous trip's store in flight, to the next gather
    and this trip's store in flight; the previous trip's block is done. -/
theorem half_wp {α : Type} {Q : α → sProp 𝕄} (hX : ∀ j, BitVec.toNat (X j) < 100000) (hrw : rw.IsWhole)
    (hcr : ∀ s' : Shape, sig.dmaCredit .scVector (Kind.table .scVector .vmem) rw.view.buf s' .f32 = s'.numel * EltTy.f32.bits)
    (q qo : PosShare TreeShare) (b : Fin 2) (k : ℕ) (hk : k < 100) (f₀ : Buf (Elt F) (oLoc d))
    (O : CellTallies nD τ sig (HIx 1)) (W : Waits sig (HIx 1))
    {c1 wo hwo wb hwb bo hbo oo hoo c2 lo hlo} (hc1 : c1 = 1#1 ↔ 0 < k) (ebo : bo = bankOff L b.val) (eoo : oo = outOff L (2 * k + b.val))
    (hc2 : c2 = 1#1 ↔ k < 99) (elo : c2 = 1#1 → lo = listOff (2 * (k + 1) + b.val))
    (kk : PUnit → Prog (TpuEff nD τ sig (Elt F) Λ₀ (.scVector (cV L) (jV L))) α) :
    iprop(slotG d L X Tb rw gs b q qo k ∗ slotS d L X Tb ds b k ∗ semVal (thr d L, .dma cs) 0 ∗ outPts d L (num b k hk) f₀
        ∗ owes (thr d L) O W ∗ Transfers.MayWaits (thr d L) (default : HIx 1) O)
      ⊢ iprop((iprop(slotG d L X Tb rw gs b q qo (k + 1) ∗ slotS d L X Tb ds b (k + 1) ∗ semVal (thr d L, .dma cs) 0 ∗ gotS d L X Tb b k
            ∗ ∃ W', ⌜∀ p ∈ W', p ∈ W ∨ p.2 = none⌝ ∗ owes (thr d L) O W') -∗ wp frame (wpE (defs₀ (F := F)) 𝒱₀ (thr d L) none) Set.univ (kk ⟨⟩) Q)
        -∗ wp frame (wpE (defs₀ (F := F)) 𝒱₀ (thr d L) none) Set.univ
            (half (F := F) L rw hrw gs cs ds c1 wo hwo wb hwb bo hbo oo hoo c2 lo hlo >>= kk) Q) := by
  iintro ⟨Hg, Hs, Hc, Ho, HO, #Hmw⟩ Hk
  unfold half
  simp only [SparseCore.waitIndirectGather, Prog.lift, Prog.bind_op, Prog.bind_ret, Prog.pure_eq_ret, Prog.bind_assoc]
  ihave Hg' := (Entails.of_eq (show slotG d L X Tb rw gs b q qo k = gFlight d L X Tb rw gs q qo (num b k hk) from dif_pos hk)) $$ Hg
  iapply (gather_wait (Q := Q) d L X Tb rw gs q qo (num b k hk) O W _) $$ [Hg' HO]
  · isplitl [Hg']; · iexact Hg'
    isplitl [HO]; · iexact HO
    iexact Hmw
  iintro ⟨Hr, Ht, Hl, Hg, HO⟩
  by_cases h : c1 = 1#1
  · have hk' : 0 < k ∧ k - 1 < 100 := ⟨hc1.mp h, by omega⟩
    simp only [dif_pos h, Prog.bind_assoc, Prog.bind_op, Prog.bind_ret]
    ihave Hs' := (Entails.of_eq (show slotS d L X Tb ds b k = sFlight d L X Tb ds b (num b (k - 1) hk'.2) from dif_pos hk')) $$ Hs
    iapply (Transfers.wp_waitLocalO (Q := Q) countersEmb 𝒱₀ (thr d L) none (default : HIx 1) (rfl : (outAt wo (hwo h)).view.dmaCredit = (outM L (num b (k - 1) hk'.2)).view.dmaCredit)) $$ [Hs' HO]
    · isplitl [Hs']; · iexact Hs'
      isplitl [HO]; · iexact HO
      iapply (Transfers.MayWaits.elim (SemLoc.dma ds)) $$ Hmw
    iintro ⟨⟨Hgot, Hb⟩, Hd, HO⟩
    iapply (halfTail_wp (Q := Q) d L X Tb rw gs cs ds hX hrw hcr q qo b k hk f₀ O _ ebo eoo hc2 elo kk) $$ [Hr Ht Hl Hg Hb Hd Hc Ho HO]
    · isplitl [Hr]; · iexact Hr
      isplitl [Ht]; · iexact Ht
      isplitl [Hl]; · iexact Hl
      isplitl [Hg]; · iexact Hg
      isplitl [Hb]; · iexact Hb
      isplitl [Hd]; · iexact Hd
      isplitl [Hc]; · iexact Hc
      isplitl [Ho]; · iexact Ho
      isplitl [HO]; · iexact HO
      iexact Hmw
    iintro ⟨Hg, Hs, Hc, HO⟩
    iapply Hk
    isplitl [Hg]; · iexact Hg
    isplitl [Hs]; · iexact Hs
    isplitl [Hc]; · iexact Hc
    isplitl [Hgot]
    · iapply (Entails.of_eq (show gotS d L X Tb b k = outPts d L (num b (k - 1) hk'.2) (goal d X Tb) from dif_pos hk').symm)
      iexact Hgot
    iexists _; isplitr
    swap; · iexact HO
    ipureintro; intro p hp
    rcases Finset.mem_insert.mp hp with hp | hp; · exact .inr (hp ▸ rfl)
    rcases Finset.mem_insert.mp hp with hp | hp; · exact .inr (hp ▸ rfl)
    rcases Finset.mem_insert.mp hp with hp | hp; · exact .inr (hp ▸ rfl)
    exact .inl hp
  · have hk' : ¬ (0 < k ∧ k - 1 < 100) := fun h' => h (hc1.mpr h'.1)
    simp only [dif_neg h, Prog.bind_ret]
    ihave Hs' := (Entails.of_eq (show slotS d L X Tb ds b k = iprop(semVal (thr d L, .dma ds) 0 ∗ bankPts (F := F) d L b) from dif_neg hk')) $$ Hs
    icases Hs' with ⟨Hd, Hb⟩
    iapply (halfTail_wp (Q := Q) d L X Tb rw gs cs ds hX hrw hcr q qo b k hk f₀ O _ ebo eoo hc2 elo kk) $$ [Hr Ht Hl Hg Hb Hd Hc Ho HO]
    · isplitl [Hr]; · iexact Hr
      isplitl [Ht]; · iexact Ht
      isplitl [Hl]; · iexact Hl
      isplitl [Hg]; · iexact Hg
      isplitl [Hb]; · iexact Hb
      isplitl [Hd]; · iexact Hd
      isplitl [Hc]; · iexact Hc
      isplitl [Ho]; · iexact Ho
      isplitl [HO]; · iexact HO
      iexact Hmw
    iintro ⟨Hg, Hs, Hc, HO⟩
    iapply Hk
    isplitl [Hg]; · iexact Hg
    isplitl [Hs]; · iexact Hs
    isplitl [Hc]; · iexact Hc
    isplitr [HO]
    · iapply (Entails.of_eq (show gotS d L X Tb b k = iprop(emp) from dif_neg hk').symm)
      iempintro
    iexists _; isplitr
    swap; · iexact HO
    ipureintro; intro p hp
    rcases Finset.mem_insert.mp hp with hp | hp; · exact .inr (hp ▸ rfl)
    rcases Finset.mem_insert.mp hp with hp | hp; · exact .inr (hp ▸ rfl)
    exact .inl hp

end Cert.Proof.Lookup

end
-- ==== Proof.Task.lean ====
/-
  One task of the call: it fetches its 200 lists, starts the first two gathers, runs the loop's 100 trips and waits for the
  last two stores. From its lists, a share of the table, its 200 blocks of the result and its two banks, it leaves every
  block at what the call is to leave there and the rest as it was.
-/
module

public import proofs.«01_k».proof.Proof.Trip

@[expose] public section

noncomputable section

namespace Cert.Proof.Lookup

open Cert.KernelIdeal Cert.KernelIdeal.Gen

open Idealize.ShloMosaic
open Idealize.ShloMosaic.SparseCore (S V T)
open Idealize.ShloMosaic.SparseCore.Cfg (HIx ownSems0 ownBufs ownCells mem_ownCells ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (L : grid0.Coords) (X : Buf (Elt F) (iLoc d)) (Tb : Buf (Elt F) (tLoc d))

/-! ## The blocks ahead and the blocks done -/

/-- The blocks of bank `b` in the trips of `s`, at contents `f`. -/
abbrev blocksOf (b : Fin 2) (s : Finset (Fin 100)) (f : Buf (Elt F) (oLoc d)) : sProp 𝕄 :=
  bigSep s fun t : Fin 100 => outPts d L (num b t.val t.isLt) f
/-- The trips from `k` on, and those whose stores are waited for before trip `k`. -/
abbrev ahead (k : ℕ) : Finset (Fin 100) := Finset.univ.filter fun t => k ≤ t.val
abbrev behind (k : ℕ) : Finset (Fin 100) := Finset.univ.filter fun t => t.val + 1 < k

theorem mem_ahead (k : ℕ) (t : Fin 100) : t ∈ ahead k ↔ k ≤ t.val := by simp [ahead]
theorem mem_behind (k : ℕ) (t : Fin 100) : t ∈ behind k ↔ t.val + 1 < k := by simp [behind]

theorem ahead_succ (b : Fin 2) (k : ℕ) (hk : k < 100) (f : Buf (Elt F) (oLoc d)) :
    (blocksOf d L b (ahead k) f : sProp 𝕄) = iprop(outPts d L (num b k hk) f ∗ blocksOf d L b (ahead (k + 1)) f) := by
  have h : ahead k = insert (⟨k, hk⟩ : Fin 100) (ahead (k + 1)) := by
    ext t; rw [Finset.mem_insert, mem_ahead, mem_ahead, Fin.ext_iff]; show k ≤ t.val ↔ t.val = k ∨ k + 1 ≤ t.val; omega
  rw [h]
  exact SparseCore.bigSep_insert' (by rw [mem_ahead]; exact Nat.not_succ_le_self k)

theorem behind_succ (b : Fin 2) (k : ℕ) :
    (iprop(gotS d L X Tb b k ∗ blocksOf d L b (behind k) (goal d X Tb)) : sProp 𝕄) ⊢ blocksOf d L b (behind (k + 1)) (goal d X Tb) := by
  unfold gotS
  split
  · next h =>
    have e : behind (k + 1) = insert (⟨k - 1, h.2⟩ : Fin 100) (behind k) := by
      ext t; rw [Finset.mem_insert, mem_behind, mem_behind, Fin.ext_iff]; show t.val + 1 < k + 1 ↔ t.val = k - 1 ∨ t.val + 1 < k; omega
    rw [e]
    exact Entails.of_eq (SparseCore.bigSep_insert' (Φ := fun t : Fin 100 => outPts d L (num b t.val t.isLt) (goal d X Tb)) (show (⟨k - 1, h.2⟩ : Fin 100) ∉ behind k from fun hm => by
      have : k - 1 + 1 < k := (mem_behind k _).mp hm
      omega)).symm
  · next h =>
    have e : behind (k + 1) = behind k := by
      ext t; have := t.isLt; rw [mem_behind, mem_behind]; omega
    rw [e]
    iintro ⟨-, H⟩; iexact H

theorem ahead_zero : ahead 0 = Finset.univ := by ext t; simp [mem_ahead]
theorem behind_end : behind 101 = Finset.univ := by ext t; have := t.isLt; rw [mem_behind]; exact iff_of_true (by omega) (Finset.mem_univ _)
theorem behind_zero : behind 0 = ∅ := by ext t; simp [mem_behind]

/-! ## One bank's side of the loop -/

/-- Before trip `k`, on bank `b`: its gather, its store, its copy's semaphore at zero, the blocks ahead as they were and
    those done at what the call is to leave there. -/
def side (rw : Memref sig .scVector .vmem S128x128 .f32) (gs cs ds : DmaSem sig) (b : Fin 2) (q qo : PosShare TreeShare)
    (f₀ : Buf (Elt F) (oLoc d)) (k : ℕ) : sProp 𝕄 :=
  iprop(slotG d L X Tb rw gs b q qo k ∗ slotS d L X Tb ds b k ∗ semVal (thr d L, .dma cs) 0 ∗ blocksOf d L b (ahead k) f₀
    ∗ blocksOf d L b (behind k) (goal d X Tb))

/-- Trip `k` on bank `b` takes its side before trip `k` to its side before trip `k + 1`. -/
theorem side_wp {α : Type} {Q : α → sProp 𝕄} (rw : Memref sig .scVector .vmem S128x128 .f32) (gs cs ds : DmaSem sig)
    (hX : ∀ j, BitVec.toNat (X j) < 100000) (hrw : rw.IsWhole)
    (hcr : ∀ s' : Shape, sig.dmaCredit .scVector (Kind.table .scVector .vmem) rw.view.buf s' .f32 = s'.numel * EltTy.f32.bits)
    (q qo : PosShare TreeShare) (b : Fin 2) (k : ℕ) (hk : k < 100) (f₀ : Buf (Elt F) (oLoc d))
    (O : CellTallies nD τ sig (HIx 1)) (W : Waits sig (HIx 1))
    {c1 wo hwo wb hwb bo hbo oo hoo c2 lo hlo} (hc1 : c1 = 1#1 ↔ 0 < k) (ebo : bo = bankOff L b.val) (eoo : oo = outOff L (2 * k + b.val))
    (hc2 : c2 = 1#1 ↔ k < 99) (elo : c2 = 1#1 → lo = listOff (2 * (k + 1) + b.val))
    (kk : PUnit → Prog (TpuEff nD τ sig (Elt F) Λ₀ (.scVector (cV L) (jV L))) α) :
    iprop(side d L X Tb rw gs cs ds b q qo f₀ k ∗ (∃ W', ⌜∀ p ∈ W', p ∈ W ∨ p.2 = none⌝ ∗ owes (thr d L) O W')
        ∗ Transfers.MayWaits (thr d L) (default : HIx 1) O)
      ⊢ iprop((iprop(side d L X Tb rw gs cs ds b q qo f₀ (k + 1) ∗ ∃ W', ⌜∀ p ∈ W', p ∈ W ∨ p.2 = none⌝ ∗ owes (thr d L) O W')
            -∗ wp frame (wpE (defs₀ (F := F)) 𝒱₀ (thr d L) none) Set.univ (kk ⟨⟩) Q)
        -∗ wp frame (wpE (defs₀ (F := F)) 𝒱₀ (thr d L) none) Set.univ
            (half (F := F) L rw hrw gs cs ds c1 wo hwo wb hwb bo hbo oo hoo c2 lo hlo >>= kk) Q) := by
  unfold side
  rw [ahead_succ d L b k hk f₀]
  iintro ⟨⟨Hg, Hs, Hc, ⟨Ho, Ha⟩, Hd⟩, ⟨%W₁, %hW₁, HO⟩, Hmw⟩ Hk
  iapply (half_wp (Q := Q) d L X Tb rw gs cs ds hX hrw hcr q qo b k hk f₀ O W₁ hc1 ebo eoo hc2 elo kk) $$ [Hg Hs Hc Ho HO Hmw]
  · isplitl [Hg]; · iexact Hg
    isplitl [Hs]; · iexact Hs
    isplitl [Hc]; · iexact Hc
    isplitl [Ho]; · iexact Ho
    isplitl [HO]; · iexact HO
    iexact Hmw
  iintro ⟨Hg, Hs, Hc, Hgot, %W₂, %hW₂, HO⟩
  iapply Hk
  isplitr [HO]
  · isplitl [Hg]; · iexact Hg
    isplitl [Hs]; · iexact Hs
    isplitl [Hc]; · iexact Hc
    isplitl [Ha]; · iexact Ha
    iapply (behind_succ d L X Tb b k)
    isplitl [Hgot]; · iexact Hgot
    iexact Hd
  · iexists W₂; isplitr
    · ipureintro; intro p hp
      rcases hW₂ p hp with h | h
      · exact hW₁ p h
      · exact .inr h
    · iexact HO

/-- A bank's side before the first trip: its gather started, nothing stored. -/
theorem side_start (rw : Memref sig .scVector .vmem S128x128 .f32) (gs cs ds : DmaSem sig) (b : Fin 2) (q qo : PosShare TreeShare)
    (f₀ : Buf (Elt F) (oLoc d)) :
    iprop(gFlight d L X Tb rw gs q qo (num b 0 (by decide)) ∗ semVal (thr d L, .dma ds) 0 ∗ bankPts (F := F) d L b
        ∗ semVal (thr d L, .dma cs) 0 ∗ blocksOf d L b Finset.univ f₀)
      ⊢ (side d L X Tb rw gs cs ds b q qo f₀ 0 : sProp 𝕄) := by
  unfold side
  rw [ahead_zero, behind_zero, show slotG d L X Tb rw gs b q qo 0 = gFlight d L X Tb rw gs q qo (num b 0 (by decide)) from dif_pos (by decide),
    show slotS d L X Tb ds b 0 = iprop(semVal (thr d L, .dma ds) 0 ∗ bankPts (F := F) d L b) from dif_neg (by omega)]
  iintro ⟨Hg, Hd, Hb, Hc, Ho⟩
  isplitl [Hg]; · iexact Hg
  isplitl [Hd Hb]
  · isplitl [Hd]; · iexact Hd
    iexact Hb
  isplitl [Hc]; · iexact Hc
  isplitl [Ho]; · iexact Ho
  iapply (Entails.of_eq (bigSep_empty (Φ := fun t : Fin 100 => outPts d L (num b t.val t.isLt) (goal d X Tb))).symm)
  iempintro

/-- A bank's side after the last trip: no gather, the last store in flight, the other blocks done. -/
theorem side_end (rw : Memref sig .scVector .vmem S128x128 .f32) (gs cs ds : DmaSem sig) (b : Fin 2) (q qo : PosShare TreeShare)
    (f₀ : Buf (Elt F) (oLoc d)) :
    side d L X Tb rw gs cs ds b q qo f₀ 100
      ⊢ (iprop(gFree d L X Tb rw gs q qo ∗ sFlight d L X Tb ds b (num b 99 (by decide)) ∗ semVal (thr d L, .dma cs) 0
          ∗ blocksOf d L b (behind 100) (goal d X Tb)) : sProp 𝕄) := by
  unfold side
  rw [show slotG d L X Tb rw gs b q qo 100 = gFree d L X Tb rw gs q qo from dif_neg (by decide),
    show slotS d L X Tb ds b 100 = sFlight d L X Tb ds b (num b 99 (by decide)) from dif_pos (by omega)]
  iintro ⟨Hg, Hs, Hc, -, Hd⟩
  isplitl [Hg]; · iexact Hg
  isplitl [Hs]; · iexact Hs
  isplitl [Hc]; · iexact Hc
  iexact Hd

/-- The last store's block makes the bank's blocks complete. -/
theorem blocks_all (b : Fin 2) :
    iprop(outPts d L (num b 99 (by decide)) (goal d X Tb) ∗ blocksOf d L b (behind 100) (goal d X Tb))
      ⊢ (blocksOf d L b Finset.univ (goal d X Tb) : sProp 𝕄) := by
  have h := behind_succ d L X Tb b 100
  rw [behind_end, show gotS d L X Tb b 100 = outPts d L (num b 99 (by decide)) (goal d X Tb) from dif_pos (by omega)] at h
  exact h

/-! ## The task's own buffers and semaphores -/

/-- Semaphore `s` of the task. -/
abbrev cellV (s : DmaSem sig) : GSem nD τ sig := (thr d L, .dma s)
/-- The other semaphores of its subcore. -/
abbrev restCells : Finset (GSem nD τ sig) :=
  (((((((ownCells (thr d L)).erase (cellV d L cc0_scratch4.sem)).erase (cellV d L cc0_scratch5.sem)).erase (cellV d L cc0_scratch6.sem)).erase
    (cellV d L cc0_scratch7.sem)).erase (cellV d L cc0_scratch8.sem)).erase (cellV d L cc0_scratch9.sem)).erase (cellV d L cc0_scoped0.sem)

theorem cellV_ne {s s' : DmaSem sig} (h : s ≠ s') : cellV d L s ≠ cellV d L s' :=
  fun e => h (SemLoc.dma.inj (Prod.ext_iff.mp e).2)

theorem mem_cellV (s : DmaSem sig) (h : (SemLoc.dma s : SemLoc sig).isScoped .scVector = true) : cellV d L s ∈ ownCells (thr d L) :=
  mem_ownCells.mpr ⟨rfl, h⟩

/-- The subcore's semaphores are the task's seven and the rest. -/
theorem ownSems0_V :
    (ownSems0 (thr d L) : sProp 𝕄)
      = iprop(semVal (cellV d L cc0_scratch4.sem) 0 ∗ semVal (cellV d L cc0_scratch5.sem) 0 ∗ semVal (cellV d L cc0_scratch6.sem) 0
          ∗ semVal (cellV d L cc0_scratch7.sem) 0 ∗ semVal (cellV d L cc0_scratch8.sem) 0 ∗ semVal (cellV d L cc0_scratch9.sem) 0
          ∗ semVal (cellV d L cc0_scoped0.sem) 0 ∗ bigSep (restCells d L) fun g => semVal g 0) := by
  unfold SparseCore.Cfg.ownSems0
  rw [SparseCore.bigSep_erase' (mem_cellV d L cc0_scratch4.sem (by decide)),
    SparseCore.bigSep_erase' (i := cellV d L cc0_scratch5.sem) (by
      simp only [Finset.mem_erase]; exact ⟨cellV_ne d L (by decide), mem_cellV d L _ (by decide)⟩),
    SparseCore.bigSep_erase' (i := cellV d L cc0_scratch6.sem) (by
      simp only [Finset.mem_erase]; exact ⟨cellV_ne d L (by decide), cellV_ne d L (by decide), mem_cellV d L _ (by decide)⟩),
    SparseCore.bigSep_erase' (i := cellV d L cc0_scratch7.sem) (by
      simp only [Finset.mem_erase]
      exact ⟨cellV_ne d L (by decide), cellV_ne d L (by decide), cellV_ne d L (by decide), mem_cellV d L _ (by decide)⟩),
    SparseCore.bigSep_erase' (i := cellV d L cc0_scratch8.sem) (by
      simp only [Finset.mem_erase]
      exact ⟨cellV_ne d L (by decide), cellV_ne d L (by decide), cellV_ne d L (by decide), cellV_ne d L (by decide), mem_cellV d L _ (by decide)⟩),
    SparseCore.bigSep_erase' (i := cellV d L cc0_scratch9.sem) (by
      simp only [Finset.mem_erase]
      exact ⟨cellV_ne d L (by decide), cellV_ne d L (by decide), cellV_ne d L (by decide), cellV_ne d L (by decide), cellV_ne d L (by decide),
        mem_cellV d L _ (by decide)⟩),
    SparseCore.bigSep_erase' (i := cellV d L cc0_scoped0.sem) (by
      simp only [Finset.mem_erase]
      exact ⟨cellV_ne d L (by decide), cellV_ne d L (by decide), cellV_ne d L (by decide), cellV_ne d L (by decide), cellV_ne d L (by decide),
        cellV_ne d L (by decide), mem_cellV d L _ (by decide)⟩)]

/-- Buffer `b` of the task's subcore, and the subcore's other buffers. -/
abbrev refV (b : Ref sig .scVector) : DevRef τ sig := (Proc.scVector (cV L) (jV L)).devRef b
abbrev restRefs : Finset (DevRef τ sig) :=
  (((ownRefs (τ := τ) (.scVector (cV L) (jV L))).erase (refV L cc0_scratch0)).erase (refV L cc0_scratch1)).erase (refV L cc0_scratch2)

theorem refV_ne {b b' : Ref sig .scVector} (h : b ≠ b') : refV L b ≠ refV L b' := fun e => h (Proc.devRef_injective _ e)

/-- The subcore's buffers are the lists' buffer, the two row buffers and the rest. -/
theorem ownBufs_V :
    (ownBufs (thr d L) : sProp 𝕄)
      = iprop((∃ f, (thr d L).loc cc0_scratch0 ↦{fullShare} f) ∗ (∃ f, (thr d L).loc cc0_scratch1 ↦{fullShare} f)
          ∗ (∃ f, (thr d L).loc cc0_scratch2 ↦{fullShare} f)
          ∗ bigSep (restRefs L) fun b => iprop(∃ f, ((d, b) : Loc nD τ sig) ↦{fullShare} f)) := by
  unfold SparseCore.Cfg.ownBufs
  refine (SparseCore.bigSep_erase' (i := refV L cc0_scratch0) (SparseCore.Cfg.mem_ownRefs_of_owner (p := Proc.scVector (cV L) (jV L)) rfl)).trans ?_
  rw [SparseCore.bigSep_erase' (i := refV L cc0_scratch1) (Finset.mem_erase.mpr ⟨refV_ne L (by decide),
      SparseCore.Cfg.mem_ownRefs_of_owner (p := Proc.scVector (cV L) (jV L)) rfl⟩),
    SparseCore.bigSep_erase' (i := refV L cc0_scratch2) (Finset.mem_erase.mpr ⟨refV_ne L (by decide), Finset.mem_erase.mpr ⟨refV_ne L (by decide),
      SparseCore.Cfg.mem_ownRefs_of_owner (p := Proc.scVector (cV L) (jV L)) rfl⟩⟩)]

/-! ## The task -/

/-- What a task is handed and hands back: its lists, a share of the table, its 200 blocks of the result, bank by bank, at
    contents `f`, and its two banks. -/
abbrev taskRes (q : PosShare TreeShare) (f : Buf (Elt F) (oLoc d)) : sProp 𝕄 :=
  iprop((iLoc d ↦[(inM L).view.set]{fullShare} X) ∗ tblPts d L Tb q ∗ (blocksOf d L 0 Finset.univ f ∗ blocksOf d L 1 Finset.univ f)
    ∗ bankPts (F := F) d L 0 ∗ bankPts (F := F) d L 1)

/-- The loop's invariant: the two banks' sides, and every wait since the start recorded with no round. -/
def inv (q : PosShare TreeShare) (f₀ : Buf (Elt F) (oLoc d)) (O : CellTallies nD τ sig (HIx 1)) (W : Waits sig (HIx 1))
    (k : ℕ) (_ : PUnit) : sProp 𝕄 :=
  iprop(Transfers.MayWaits (thr d L) (default : HIx 1) O ∗ (∃ W', ⌜∀ p ∈ W', p ∈ W ∨ p.2 = none⌝ ∗ owes (thr d L) O W')
    ∗ side d L X Tb r0V cc0_scratch4.sem cc0_scratch6.sem cc0_scratch8.sem 0 q.left fullShare.left f₀ k
    ∗ side d L X Tb r1V cc0_scratch5.sem cc0_scratch7.sem cc0_scratch9.sem 1 q.right fullShare.right f₀ k)

set_option maxHeartbeats 1000000 in
/-- A trip keeps the invariant. -/
theorem trip_wp (hX : ∀ j, BitVec.toNat (X j) < 100000) (q : PosShare TreeShare) (f₀ : Buf (Elt F) (oLoc d))
    (O : CellTallies nD τ sig (HIx 1)) (W : Waits sig (HIx 1)) (v2 : BitVec 32) (k : Fin k0_t1_loop.trips) (u : PUnit) :
    inv d L X Tb q f₀ O W k.val u
      ⊢ wp frame (wpE (defs₀ (F := F)) 𝒱₀ (thr d L) none) Set.univ
          (k0_t1_body (F := F) L iV (Memref.isWhole_whole _) tV (Memref.isWhole_whole _) oV (Memref.isWhole_whole _) sV (Memref.isWhole_whole _)
            r0V (Memref.isWhole_whole _) r1V (Memref.isWhole_whole _) shV (Memref.isWhole_whole _)
            cc0_scratch4 cc0_scratch5 cc0_scratch6 cc0_scratch7 cc0_scratch8 cc0_scratch9 cc0_scoped0 v2 k u)
          (fun u' => inv d L X Tb q f₀ O W (k.val + 1) u') := by
  have hk : k.val < 100 := by have := k.isLt; have := trips_eq; omega
  rw [body_eq L v2 k u]
  unfold inv
  iintro ⟨#Hmw, HO, H0, H1⟩
  iapply (side_wp (Q := fun u' => inv d L X Tb q f₀ O W (k.val + 1) u') d L X Tb r0V cc0_scratch4.sem cc0_scratch6.sem cc0_scratch8.sem hX (Memref.isWhole_whole _) (fun _ => rfl)
    q.left fullShare.left 0 k.val hk f₀ O W (cond1_iff k) (k0_off5_eq L)
    ((k0_off6_eq L k 0).trans (by
      show (![51200 * (L 1).val + 25600 * (L 0).val + 256 * k.val + 128 * 0, 0] : Fin 2 → ℕ) = ![51200 * (L 1).val + 25600 * (L 0).val + 128 * (2 * k.val + 0), 0]
      congr 1; omega))
    (cond2_iff k) (fun _ => (k0_off7_eq k).trans (by
      show (![2 * k.val + 2, 0] : Fin 2 → ℕ) = ![2 * (k.val + 1) + 0, 0]
      congr 1)) _) $$ [H0 HO]
  · isplitl [H0]; · iexact H0
    isplitl [HO]; · iexact HO
    iexact Hmw
  iintro ⟨H0, HO⟩
  iapply (side_wp (Q := fun u' => inv d L X Tb q f₀ O W (k.val + 1) u') d L X Tb r1V cc0_scratch5.sem cc0_scratch7.sem cc0_scratch9.sem hX (Memref.isWhole_whole _) (fun _ => rfl)
    q.right fullShare.right 1 k.val hk f₀ O W (cond3_iff k) (k0_off10_eq L)
    ((k0_off6_eq L k 1).trans (by
      show (![51200 * (L 1).val + 25600 * (L 0).val + 256 * k.val + 128 * 1, 0] : Fin 2 → ℕ) = ![51200 * (L 1).val + 25600 * (L 0).val + 128 * (2 * k.val + 1), 0]
      congr 1; omega))
    (cond4_iff k) (fun _ => (k0_off11_eq k).trans (by
      show (![2 * k.val + 3, 0] : Fin 2 → ℕ) = ![2 * (k.val + 1) + 1, 0]
      congr 1)) _) $$ [H1 HO]
  · isplitl [H1]; · iexact H1
    isplitl [HO]; · iexact HO
    iexact Hmw
  iintro ⟨H1, HO⟩
  simp only [Prog.pure_eq_ret]
  rw [wp_ret]; imodintro
  unfold inv
  isplitr; · iexact Hmw
  isplitl [HO]; · iexact HO
  isplitl [H0]; · iexact H0
  iexact H1

/-- The lists as the fetch leaves them in their buffer. -/
theorem lists_fetched (fs : Buf (Elt F) ((thr d L).loc cc0_scratch0)) :
    (sV.view.loc (thr d L) ↦[sV.view.set]{fullShare} (sV.view.write (Elt F) fs ((inM L).view.read (Elt F) X) Finset.univ))
      ⊢ (listPts d L X Finset.univ fullShare : sProp 𝕄) := by
  have h : sV.view.set = (Finset.univ : Finset S200x128.Idx) := View.set_whole _
  have e : (sV.view.write (Elt F) fs ((inM L).view.read (Elt F) X) Finset.univ : Buf (Elt F) ((thr d L).loc cc0_scratch0))
      = (lists (F := F) L X : S200x128.Idx → Elt F .i32) := View.write_whole_univ _ _ _
  rw [e, h]

/-- The fetch of the lists, waited for: their buffer holds them, the rest is as it was. -/
theorem fetch_wp {α : Type} {Q : α → sProp 𝕄} (O : CellTallies nD τ sig (HIx 1)) (W : Waits sig (HIx 1))
    (fs : Buf (Elt F) ((thr d L).loc cc0_scratch0)) {o : Fin 3 → ℕ} {ho} (e : o = inOff L)
    (k : PUnit → Prog (TpuEff nD τ sig (Elt F) Λ₀ (.scVector (cV L) (jV L))) α) :
    iprop((iLoc d ↦[(inM L).view.set]{fullShare} X) ∗ ((thr d L).loc cc0_scratch0 ↦{fullShare} fs) ∗ semVal (thr d L, .dma cc0_scoped0.sem) 0
        ∗ owes (thr d L) O W ∗ Transfers.MayWaits (thr d L) (default : HIx 1) O)
      ⊢ iprop((iprop((iLoc d ↦[(inM L).view.set]{fullShare} X) ∗ listPts d L X Finset.univ fullShare ∗ semVal (thr d L, .dma cc0_scoped0.sem) 0
            ∗ owes (thr d L) O (insert (SemLoc.dma cc0_scoped0.sem, (default : HIx 1)) W))
            -∗ wp frame (wpE (defs₀ (F := F)) 𝒱₀ (thr d L) none) Set.univ (k ⟨⟩) Q)
        -∗ wp frame (wpE (defs₀ (F := F)) 𝒱₀ (thr d L) none) Set.univ
            (.op (.enqueueDma (inAt o ho) (.here sV) (.dma cc0_scoped0.sem) ((View.wordExact_bits rfl).reshape _ _) (Memref.isWhole_whole _).wordExact
                ⟨Or.inl rfl, trivial⟩)
              (fun _ => .op (.waitDma2 cc0_scoped0.sem (inAt o ho) sV ((View.wordExact_bits rfl).reshape _ _) (Memref.isWhole_whole _).wordExact) k)) Q) := by
  subst e
  have hs : sV.view.set = (Finset.univ : Finset S200x128.Idx) := View.set_whole _
  iintro ⟨Hi, Hs, Hsc, HO, Hmw⟩ Hk
  iapply (Transfers.wp_dmaLocal (Q := Q) countersEmb 𝒱₀ (thr d L) none (dst := sV) (Sd := sV.view.set) (default : HIx 1)
      sV.view.dmaCredit rfl (View.dmaCredit_pos _ (by decide)) (Finset.Subset.refl _)) $$ [Hi Hs Hsc]
  · isplitl [Hi]; · iexact Hi
    isplitl [Hs]; · rw [hs]; iexact Hs
    iexact Hsc
  iintro Hfl
  iapply (Transfers.wp_waitLocalO (Q := Q) countersEmb 𝒱₀ (thr d L) none (default : HIx 1) (rfl : sV.view.dmaCredit = _)) $$ [Hfl HO Hmw]
  · isplitl [Hfl]; · iexact Hfl
    isplitl [HO]; · iexact HO
    iapply (Transfers.MayWaits.elim (SemLoc.dma cc0_scoped0.sem)) $$ Hmw
  iintro ⟨⟨Hs, Hi⟩, Hsc, HO⟩
  iapply Hk
  isplitl [Hi]; · iexact Hi
  isplitl [Hs]; · iapply (lists_fetched d L X fs); iexact Hs
  isplitl [Hsc]; · iexact Hsc
  iexact HO

end Cert.Proof.Lookup

end
-- ==== Proof.Body.lean ====
/-
  The task's run: the fetch of its lists, the first two gathers, the loop by its invariant, the last two stores.
-/
module

public import proofs.«01_k».proof.Proof.Task

@[expose] public section

noncomputable section

namespace Cert.Proof.Lookup

open Cert.KernelIdeal Cert.KernelIdeal.Gen

open Idealize.ShloMosaic
open Idealize.ShloMosaic.SparseCore (S V T)
open Idealize.ShloMosaic.SparseCore.Cfg (HIx ownSems0 ownBufs ownCells mem_ownCells ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (L : grid0.Coords) (X : Buf (Elt F) (iLoc d)) (Tb : Buf (Elt F) (tLoc d))

set_option maxHeartbeats 300000 in
/-- The task on vector subcore `(L 0, L 1)` of device `d`. -/
theorem tile_body (hF : (K (F := F)).Facts) (hX : ∀ j, BitVec.toNat (X j) < 100000) (q : PosShare TreeShare) (f₀ : Buf (Elt F) (oLoc d))
    (O : CellTallies nD τ sig (HIx 1)) (W : Waits sig (HIx 1)) (hO : ∀ g, O g none = 0) :
    iprop(levAts (K (F := F)).L (K (F := F)).lev ∗ emp ∗ taskRes d L X Tb q f₀
        ∗ scopedBufs (thr d L) ∗ scopedSems0 (thr d L) ∗ owes (thr d L) O W)
      ⊢ wp frame (wpE (defs₀ (F := F)) 𝒱₀ (thr d L) none) Set.univ
          (cc0__gather_body (F := F) L iV (Memref.isWhole_whole _) tV (Memref.isWhole_whole _) oV (Memref.isWhole_whole _) sV (Memref.isWhole_whole _)
            r0V (Memref.isWhole_whole _) r1V (Memref.isWhole_whole _) shV (Memref.isWhole_whole _)
            cc0_scratch4 cc0_scratch5 cc0_scratch6 cc0_scratch7 cc0_scratch8 cc0_scratch9 cc0_scoped0)
          fun _ => iprop(taskRes d L X Tb q (goal d X Tb) ∗ scopedBufs (thr d L) ∗ scopedSems0 (thr d L)
            ∗ ∃ W', ⌜∀ p ∈ W', p ∈ W ∨ p.2 = none⌝ ∗ owes (thr d L) O W') := by
  simp only [cc0__gather_body_eq_skeleton]; unfold cc0__gather_body_skel
  rw [k0_part2_eq_skeleton]; unfold k0_part2_skel
  rw [(K (F := F)).scopedBufs_V hF d (cV L) (jV L), SparseCore.Cfg.scopedSems0_V (Val := Elt F) d (cV L) (jV L), ownSems0_V, ownBufs_V]
  iintro ⟨#Hlv, -, ⟨Hi, Ht, ⟨Ho0, Ho1⟩, Hb0, Hb1⟩, ⟨⟨%fs, Hs⟩, ⟨%fr0, Hr0⟩, ⟨%fr1, Hr1⟩, Hbufs⟩, ⟨Hg0, Hg1, Hc0, Hc1, Hd0, Hd1, Hsc, Hsems⟩, HO⟩
  ihave #Hmw := (show levAts (K (F := F)).L (K (F := F)).lev ⊢ Transfers.MayWaits (thr d L) (default : HIx 1) O from
    (K (F := F)).mayWaits_none (thr := thr d L) hO) $$ Hlv
  have hr0 : r0V.view.set = (Finset.univ : Finset S128x128.Idx) := View.set_whole _
  have hr1 : r1V.view.set = (Finset.univ : Finset S128x128.Idx) := View.set_whole _
  simp only [Prog.lift, Prog.bind_op, Prog.bind_ret, Prog.pure_eq_ret, Prog.bind_assoc]
  -- the fetch of the lists
  iapply (fetch_wp d L X O W fs (k0_off1_eq L) _) $$ [Hi Hs Hsc HO]
  · isplitl [Hi]; · iexact Hi
    isplitl [Hs]; · iexact Hs
    isplitl [Hsc]; · iexact Hsc
    isplitl [HO]; · iexact HO
    iexact Hmw
  iintro ⟨Hi, Hl, Hsc, HO⟩
  -- the halves of the lists and of the table's share, one for each bank
  ihave Hl' := (pointsTo_share (PosShare.mem_left_op_right fullShare)).1 $$ Hl
  icases Hl' with ⟨Hl0, Hl1⟩
  ihave Ht' := (pointsTo_share (PosShare.mem_left_op_right q)).1 $$ Ht
  icases Ht' with ⟨Ht0, Ht1⟩
  -- the first two gathers
  iapply (gather_start d L X Tb r0V cc0_scratch4.sem hX (fun _ => rfl) q.left fullShare.left (num 0 0 (by decide)) _) $$ [Hr0 Ht0 Hl0 Hg0]
  · isplitl [Hr0]; · iexists fr0; rw [hr0]; iexact Hr0
    isplitl [Ht0]; · iexact Ht0
    isplitl [Hl0]; · iexact Hl0
    iexact Hg0
  iintro Hgf0
  iapply (gather_start d L X Tb r1V cc0_scratch5.sem hX (fun _ => rfl) q.right fullShare.right (num 1 0 (by decide)) _) $$ [Hr1 Ht1 Hl1 Hg1]
  · isplitl [Hr1]; · iexists fr1; rw [hr1]; iexact Hr1
    isplitl [Ht1]; · iexact Ht1
    isplitl [Hl1]; · iexact Hl1
    iexact Hg1
  iintro Hgf1
  ihave H0 := (side_start d L X Tb r0V cc0_scratch4.sem cc0_scratch6.sem cc0_scratch8.sem 0 q.left fullShare.left f₀) $$ [Hgf0 Hd0 Hb0 Hc0 Ho0]
  · isplitl [Hgf0]; · iexact Hgf0
    isplitl [Hd0]; · iexact Hd0
    isplitl [Hb0]; · iexact Hb0
    isplitl [Hc0]; · iexact Hc0
    iexact Ho0
  ihave H1 := (side_start d L X Tb r1V cc0_scratch5.sem cc0_scratch7.sem cc0_scratch9.sem 1 q.right fullShare.right f₀) $$ [Hgf1 Hd1 Hb1 Hc1 Ho1]
  · isplitl [Hgf1]; · iexact Hgf1
    isplitl [Hd1]; · iexact Hd1
    isplitl [Hb1]; · iexact Hb1
    isplitl [Hc1]; · iexact Hc1
    iexact Ho1
  -- the loop
  iapply (Scf.wp_for_bind frame (wpE (defs₀ (F := F)) 𝒱₀ (thr d L) none) Set.univ _ _ _ _ _ _ (inv d L X Tb q f₀ O W)
    (fun k u => trip_wp d L X Tb hX q f₀ O W _ k u)) $$ [H0 H1 HO]
  · unfold inv
    isplitr; · iexact Hmw
    isplitl [HO]
    · iexists _; isplitr
      swap; · iexact HO
      ipureintro; intro p hp
      rcases Finset.mem_insert.mp hp with hp | hp; · exact .inr (hp ▸ rfl)
      exact .inl hp
    isplitl [H0]; · iexact H0
    iexact H1
  iintro %u HI
  ihave HI' := (Entails.of_eq (show inv d L X Tb q f₀ O W (Scf.trips k0_t1_loop.lb k0_t1_loop.ub k0_t1_loop.st) u = inv d L X Tb q f₀ O W 100 u from
    congrArg (fun n => inv d L X Tb q f₀ O W n u) trips_eq)) $$ HI
  ihave HI'' := (show inv d L X Tb q f₀ O W 100 u ⊢ _ from Entails.refl _) $$ HI'
  unfold inv
  icases HI'' with ⟨-, ⟨%W₁, %hW₁, HO⟩, H0, H1⟩
  ihave H0' := (side_end d L X Tb r0V cc0_scratch4.sem cc0_scratch6.sem cc0_scratch8.sem 0 q.left fullShare.left f₀) $$ H0
  icases H0' with ⟨⟨⟨%gr0, Hr0⟩, Ht0, Hl0, Hg0⟩, Hs0, Hc0, Hdone0⟩
  ihave H1' := (side_end d L X Tb r1V cc0_scratch5.sem cc0_scratch7.sem cc0_scratch9.sem 1 q.right fullShare.right f₀) $$ H1
  icases H1' with ⟨⟨⟨%gr1, Hr1⟩, Ht1, Hl1, Hg1⟩, Hs1, Hc1, Hdone1⟩
  -- the last two stores
  iapply (Transfers.wp_waitLocalO countersEmb 𝒱₀ (thr d L) none (default : HIx 1)
    (rfl : (outAt (k0_off12 L) (k0_off12_inb L)).view.dmaCredit = (outM L (num 0 99 (by decide))).view.dmaCredit)) $$ [Hs0 HO]
  · isplitl [Hs0]; · iexact Hs0
    isplitl [HO]; · iexact HO
    iapply (Transfers.MayWaits.elim (SemLoc.dma cc0_scratch8.sem)) $$ Hmw
  iintro ⟨⟨Hgot0, Hb0⟩, Hd0, HO⟩
  iapply (Transfers.wp_waitLocalO countersEmb 𝒱₀ (thr d L) none (default : HIx 1)
    (rfl : (outAt (k0_off12 L) (k0_off12_inb L)).view.dmaCredit = (outM L (num 1 99 (by decide))).view.dmaCredit)) $$ [Hs1 HO]
  · isplitl [Hs1]; · iexact Hs1
    isplitl [HO]; · iexact HO
    iapply (Transfers.MayWaits.elim (SemLoc.dma cc0_scratch9.sem)) $$ Hmw
  iintro ⟨⟨Hgot1, Hb1⟩, Hd1, HO⟩
  rw [wp_ret]; imodintro
  isplitl [Hi Ht0 Ht1 Hgot0 Hdone0 Hgot1 Hdone1 Hb0 Hb1]
  · isplitl [Hi]; · iexact Hi
    isplitl [Ht0 Ht1]
    · iapply (pointsTo_share (PosShare.mem_left_op_right q)).2
      isplitl [Ht0]; · iexact Ht0
      iexact Ht1
    isplitl [Hgot0 Hdone0 Hgot1 Hdone1]
    · isplitl [Hgot0 Hdone0]
      · iapply (blocks_all d L X Tb 0)
        isplitl [Hgot0]; · iexact Hgot0
        iexact Hdone0
      · iapply (blocks_all d L X Tb 1)
        isplitl [Hgot1]; · iexact Hgot1
        iexact Hdone1
    isplitl [Hb0]; · iexact Hb0
    iexact Hb1
  isplitl [Hl0 Hl1 Hr0 Hr1 Hbufs]
  · isplitl [Hl0 Hl1]
    · iexists _
      iapply (pointsTo_share (PosShare.mem_left_op_right fullShare)).2
      isplitl [Hl0]; · iexact Hl0
      iexact Hl1
    isplitl [Hr0]; · iexists gr0; rw [hr0]; iexact Hr0
    isplitl [Hr1]; · iexists gr1; rw [hr1]; iexact Hr1
    iexact Hbufs
  isplitl [Hg0 Hg1 Hc0 Hc1 Hd0 Hd1 Hsc Hsems]
  · isplitl [Hg0]; · iexact Hg0
    isplitl [Hg1]; · iexact Hg1
    isplitl [Hc0]; · iexact Hc0
    isplitl [Hc1]; · iexact Hc1
    isplitl [Hd0]; · iexact Hd0
    isplitl [Hd1]; · iexact Hd1
    isplitl [Hsc]; · iexact Hsc
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  exact hW₁ p hp

end Cert.Proof.Lookup

end
-- ==== Proof.Pieces.lean ====
/-
  The buffers cut into what the 32 tasks hold: the lookups into the tasks' lists, the table into shares, the result into
  blocks, and each SparseCore's shared memory into its tasks' banks.
-/
module

public import proofs.«01_k».proof.Proof.Body

@[expose] public section

noncomputable section

namespace Cert.Proof.Lookup

open Cert.KernelIdeal Cert.KernelIdeal.Gen

open Idealize.ShloMosaic
open Idealize.ShloMosaic.SparseCore (S V T)
open Idealize.ShloMosaic.SparseCore.Cfg (HIx ownSems0 ownBufs ownCells mem_ownCells ownRefs mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (X : Buf (Elt F) (iLoc d)) (Tb : Buf (Elt F) (tLoc d))

/-- The coordinates of the task on subcore `s` of SparseCore `c`. -/
abbrev LL (c : Fin 2) (s : Fin 16) : grid0.Coords := coordsV c s

/-- SparseCore `c`'s share of the table, and its task `s`'s share. -/
abbrev coreShare (c : Fin 2) : PosShare TreeShare := Idealize.ShloMosaic.pieceOf fullShare 2 (by decide) c
abbrev taskShare (c : Fin 2) (s : Fin 16) : PosShare TreeShare := Idealize.ShloMosaic.pieceOf (coreShare c) 16 (by decide) s

/-! ## The lookups -/

abbrev inSet (p : Fin 2 × Fin 16) : Finset S32x200x128.Idx := (inM (LL p.1 p.2)).view.set

theorem inSet_disjoint : ∀ p ∈ (Finset.univ : Finset (Fin 2 × Fin 16)), ∀ p' ∈ (Finset.univ : Finset (Fin 2 × Fin 16)), p ≠ p' →
    Disjoint (inSet p) (inSet p') := by
  intro p _ p' _ h
  rw [Finset.disjoint_left]
  intro y hy hy'
  have e : (y 0).val = 2 * p.2.val + p.1.val := (mem_inM _ y).mp hy
  have e' : (y 0).val = 2 * p'.2.val + p'.1.val := (mem_inM _ y).mp hy'
  have := p.1.isLt; have := p'.1.isLt
  exact h (Prod.ext (Fin.ext (by omega)) (Fin.ext (by omega)))

theorem inSet_cover : (Finset.univ : Finset (Fin 2 × Fin 16)).biUnion inSet = Finset.univ := by
  ext y
  simp only [Finset.mem_biUnion, Finset.mem_univ, iff_true]
  have h : (y 0).val < 32 := (y 0).isLt
  refine ⟨(⟨(y 0).val % 2, by omega⟩, ⟨(y 0).val / 2, by omega⟩), ⟨trivial, ?_⟩⟩
  refine (mem_inM _ y).mpr ?_
  show (y 0).val = 2 * ((y 0).val / 2) + (y 0).val % 2; omega

/-- The lookups whole are the tasks' lists. -/
theorem lookups_split :
    (iLoc d ↦{fullShare} X : sProp 𝕄)
      = bigSep Finset.univ fun c : Fin 2 => bigSep Finset.univ fun s : Fin 16 => iLoc d ↦[(inM (LL c s)).view.set]{fullShare} X := by
  rw [← bigSep_univ_prod (fun p : Fin 2 × Fin 16 => (iLoc d ↦[inSet p]{fullShare} X : sProp 𝕄)),
    ← pointsTo_biUnion Finset.univ (ℓ := iLoc d) inSet inSet_disjoint, inSet_cover]
  try rfl

/-! ## The table -/

theorem tblPts_eq (L : grid0.Coords) (q : PosShare TreeShare) : (tblPts d L Tb q : sProp 𝕄) = tLoc d ↦{q} Tb := by
  unfold tblPts; rw [set_tAll]

/-- The table whole is the tasks' shares of it. -/
theorem table_split :
    (tLoc d ↦{fullShare} Tb : sProp 𝕄)
      = bigSep Finset.univ fun c : Fin 2 => bigSep Finset.univ fun s : Fin 16 => tblPts d (LL c s) Tb (taskShare c s) := by
  rw [Idealize.ShloMosaic.pointsTo_piecesOf Finset.univ Tb (o := 2) (by decide) fullShare]
  refine bigSep_congr fun c _ => ?_
  rw [Idealize.ShloMosaic.pointsTo_piecesOf Finset.univ Tb (o := 16) (by decide) (coreShare c)]
  exact bigSep_congr fun s _ => (tblPts_eq d Tb (LL c s) (taskShare c s)).symm

/-! ## The result -/

abbrev outSet (p : Fin 2 × Fin 16 × Fin 2 × Fin 100) : Finset S819200x128.Idx :=
  (outM (LL p.1 p.2.1) (num p.2.2.1 p.2.2.2.val p.2.2.2.isLt)).view.set

theorem outSet_disjoint : ∀ p ∈ (Finset.univ : Finset (Fin 2 × Fin 16 × Fin 2 × Fin 100)),
    ∀ p' ∈ (Finset.univ : Finset (Fin 2 × Fin 16 × Fin 2 × Fin 100)), p ≠ p' → Disjoint (outSet p) (outSet p') := by
  intro p _ p' _ h
  rw [Finset.disjoint_left]
  intro y hy hy'
  have e : (y 0).val / 128 = 400 * p.2.1.val + 200 * p.1.val + (2 * p.2.2.2.val + p.2.2.1.val) := (mem_outM _ _ y).mp hy
  have e' : (y 0).val / 128 = 400 * p'.2.1.val + 200 * p'.1.val + (2 * p'.2.2.2.val + p'.2.2.1.val) := (mem_outM _ _ y).mp hy'
  have := p.1.isLt; have := p'.1.isLt; have := p.2.2.1.isLt; have := p'.2.2.1.isLt; have := p.2.2.2.isLt; have := p'.2.2.2.isLt
  exact h (Prod.ext (Fin.ext (by omega)) (Prod.ext (Fin.ext (by omega)) (Prod.ext (Fin.ext (by omega)) (Fin.ext (by omega)))))

theorem outSet_cover : (Finset.univ : Finset (Fin 2 × Fin 16 × Fin 2 × Fin 100)).biUnion outSet = Finset.univ := by
  ext y
  simp only [Finset.mem_biUnion, Finset.mem_univ, iff_true]
  have h : (y 0).val < 819200 := (y 0).isLt
  refine ⟨(⟨(y 0).val / 25600 % 2, by omega⟩, ⟨(y 0).val / 51200, by omega⟩, ⟨(y 0).val / 128 % 2, by omega⟩, ⟨(y 0).val / 256 % 100, by omega⟩), ⟨trivial, ?_⟩⟩
  refine (mem_outM _ _ y).mpr ?_
  show (y 0).val / 128 = 400 * ((y 0).val / 51200) + 200 * ((y 0).val / 25600 % 2) + (2 * ((y 0).val / 256 % 100) + (y 0).val / 128 % 2); omega

theorem fin2_split (Φ : Fin 2 → sProp 𝕄) : bigSep Finset.univ Φ = iprop(Φ 0 ∗ Φ 1) := by
  rw [show (Finset.univ : Finset (Fin 2)) = {0, 1} by decide, SparseCore.bigSep_insert' (by decide), bigSep_singleton]

/-- The result whole is the tasks' blocks. -/
theorem result_split (f : Buf (Elt F) (oLoc d)) :
    (oLoc d ↦{fullShare} f : sProp 𝕄)
      = bigSep Finset.univ fun c : Fin 2 => bigSep Finset.univ fun s : Fin 16 =>
          iprop(blocksOf d (LL c s) 0 Finset.univ f ∗ blocksOf d (LL c s) 1 Finset.univ f) := by
  have h : (oLoc d ↦{fullShare} f : sProp 𝕄) = bigSep Finset.univ fun p : Fin 2 × Fin 16 × Fin 2 × Fin 100 => (oLoc d ↦[outSet p]{fullShare} f : sProp 𝕄) := by
    rw [← pointsTo_biUnion Finset.univ (ℓ := oLoc d) outSet outSet_disjoint, outSet_cover]
    try rfl
  rw [h, bigSep_univ_prod]
  refine bigSep_congr fun c _ => ?_
  rw [bigSep_univ_prod]
  refine bigSep_congr fun s _ => ?_
  rw [bigSep_univ_prod, fin2_split]

/-! ## The banks -/

/-- SparseCore `c`'s shared memory. -/
abbrev shRef (c : Fin τ.nSC) : DevRef τ sig := ⟨.shared, ⟨0, by decide⟩, c⟩
abbrev shLoc (c : Fin τ.nSC) : Loc nD τ sig := (d, shRef c)

abbrev bankSet (p : Fin 16 × Fin 2) : Finset S16x2x128x128.Idx := (bankM (LL 0 p.1) p.2).view.set

theorem bankSet_disjoint : ∀ p ∈ (Finset.univ : Finset (Fin 16 × Fin 2)), ∀ p' ∈ (Finset.univ : Finset (Fin 16 × Fin 2)), p ≠ p' →
    Disjoint (bankSet p) (bankSet p') := by
  intro p _ p' _ h
  rw [Finset.disjoint_left]
  intro y hy hy'
  have e := (mem_bankM _ _ y).mp hy
  have e' := (mem_bankM _ _ y).mp hy'
  exact h (Prod.ext (Fin.ext (e.1.symm.trans e'.1)) (Fin.ext (e.2.symm.trans e'.2)))

theorem bankSet_cover : (Finset.univ : Finset (Fin 16 × Fin 2)).biUnion bankSet = Finset.univ := by
  ext y
  simp only [Finset.mem_biUnion, Finset.mem_univ, iff_true]
  exact ⟨((y 0 : Fin 16), (y 1 : Fin 2)), ⟨trivial, (mem_bankM _ _ y).mpr ⟨rfl, rfl⟩⟩⟩

/-- The two banks of the task on subcore `s` of SparseCore `c`. -/
abbrev banks (c : Fin 2) (s : Fin 16) : sProp 𝕄 := iprop(bankPts (F := F) d (LL c s) 0 ∗ bankPts (F := F) d (LL c s) 1)

/-- A bank of the shared memory of SparseCore `c`, at some contents. -/
abbrev bankAny (c : Fin 2) (p : Fin 16 × Fin 2) : sProp 𝕄 := iprop(∃ f : Buf (Elt F) (shLoc d c), shLoc d c ↦[bankSet p]{fullShare} f)

theorem banks_eq (c : Fin 2) :
    (bigSep Finset.univ fun s : Fin 16 => banks (F := F) d c s) = bigSep Finset.univ fun p : Fin 16 × Fin 2 => bankAny (F := F) d c p := by
  rw [bigSep_univ_prod]
  refine bigSep_congr fun s _ => ?_
  rw [fin2_split]
  rfl

/-- SparseCore `c`'s shared memory whole, handed to its tasks as their banks, -/
theorem banks_out (c : Fin 2) (f : Buf (Elt F) (shLoc d c)) :
    (shLoc d c ↦{fullShare} f : sProp 𝕄) ⊢ bigSep Finset.univ fun s : Fin 16 => banks (F := F) d c s := by
  rw [banks_eq]
  have h : (shLoc d c ↦{fullShare} f : sProp 𝕄) = bigSep Finset.univ fun p : Fin 16 × Fin 2 => (shLoc d c ↦[bankSet p]{fullShare} f : sProp 𝕄) := by
    rw [← pointsTo_biUnion Finset.univ (ℓ := shLoc d c) bankSet bankSet_disjoint, bankSet_cover]
    try rfl
  rw [h]
  exact SparseCore.ent (bigSep_mono fun p _ => BI.BIClass.exists_intro (Φ := fun f : Buf (Elt F) (shLoc d c) => (shLoc d c ↦[bankSet p]{fullShare} f : sProp 𝕄)) f)

/-- and whole again from the banks they hand back. -/
theorem banks_back (c : Fin 2) :
    (bigSep Finset.univ fun s : Fin 16 => banks (F := F) d c s) ⊢ (iprop(∃ f, shLoc d c ↦{fullShare} f) : sProp 𝕄) := by
  rw [banks_eq]
  have f₀ : Buf (Elt F) (shLoc d c) := fun _ => (FloatOps.ofBits (F := F) .f32 0 : F .f32)
  have : Nonempty (Buf (Elt F) (shLoc d c)) := ⟨f₀⟩
  refine (bigSep_exists_pi Finset.univ (fun p (f : Buf (Elt F) (shLoc d c)) => (shLoc d c ↦[bankSet p]{fullShare} f : sProp 𝕄))).trans ?_
  iintro ⟨%fs, H⟩
  ihave H' := (pointsTo_biUnion_join (ℓ := shLoc d c) (q := fullShare) (Val := Elt F) Finset.univ bankSet fs f₀ bankSet_disjoint) $$ H
  icases H' with ⟨%g, -, Hg⟩
  rw [bankSet_cover]
  iexists g; iexact Hg

end Cert.Proof.Lookup

end
-- ==== Proof.Launch.lean ====
/-
  The launch. What the call hands each SparseCore and each task and takes back, that a task does its part of it, that the
  parts make the whole, and the run of the program: at its end `main_v2` holds, in the order of the lookups, the table's
  rows they name.
-/
module

public import proofs.«01_k».proof.Proof.Pieces

@[expose] public section

noncomputable section

namespace Cert.Proof.Lookup

open Cert.KernelIdeal Cert.KernelIdeal.Gen

open Idealize.ShloMosaic
open Idealize.ShloMosaic.SparseCore (S V T)
open Idealize.ShloMosaic.SparseCore.Cfg (HIx ownSems0 ownBufs ownCells mem_ownCells ownRefs mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

open Idealize.ShloMosaic.StableHlo (held wp_hlo_within)
variable (m : (ℓ : Loc nD τ sig) → Buf (Elt F) ℓ) (ρ : Dev nD → PrngReg)

/-- The lookups as the call takes them: as 32 × 200 lists of 128. -/
abbrev X0 (d : Dev nD) : Buf (Elt F) (iLoc d) := shapeCast S32x200x128 (m (aLoc d)) shapeCasts_S4096x200_S32x200x128
/-- The rows looked up, as the call leaves them, -/
abbrev Ov (d : Dev nD) : Buf (Elt F) (oLoc d) := goal d (X0 m d) (m (tLoc d))
/-- and as the program returns them. -/
abbrev Rv (d : Dev nD) : Buf (Elt F) (rLoc d) := shapeCast S4096x200x128 (Ov m d) shapeCasts_S819200x128_S4096x200x128

/-- What the proof asks of the launch memory: every lookup is a row number of the table. -/
def PreOK : Prop := ∀ (d : Dev nD) (j : S4096x200.Idx), BitVec.toNat (m (aLoc d) j) < 100000

/-- Then so is every word of the lists. -/
theorem X0_lt (h : PreOK m) (d : Dev nD) (j : S32x200x128.Idx) : BitVec.toNat (X0 m d j) < 100000 := h d _

/-! ## What the handshakes carry -/

theorem nCore_zero : (K (F := F)).nCore 0 = 2 := rfl
theorem nSub_zero : (K (F := F)).nSub 0 = 16 := rfl

/-- Task `(c, s)`'s part of the call's operands and result, the result at contents `f`. -/
abbrev part (d : Dev nD) (f : Buf (Elt F) (oLoc d)) (c : Fin 2) (s : Fin 16) : sProp 𝕄 :=
  iprop((iLoc d ↦[(inM (LL c s)).view.set]{fullShare} X0 m d) ∗ tblPts d (LL c s) (m (tLoc d)) (taskShare c s)
    ∗ (blocksOf d (LL c s) 0 Finset.univ f ∗ blocksOf d (LL c s) 1 Finset.univ f))
/-- SparseCore `c`'s part: its tasks' parts. -/
@[irreducible] def corePart (d : Dev nD) (f : Buf (Elt F) (oLoc d)) (c : Fin 2) : sProp 𝕄 := bigSep Finset.univ fun s : Fin 16 => part m d f c s
/-- What task `(c, s)` holds: its part, and its two banks of the SparseCore's shared memory. -/
@[irreducible] def taskPart (d : Dev nD) (f : Buf (Elt F) (oLoc d)) (c : Fin 2) (s : Fin 16) : sProp 𝕄 :=
  taskRes d (LL c s) (X0 m d) (m (tLoc d)) (taskShare c s) f

theorem corePart_eq (d : Dev nD) (f : Buf (Elt F) (oLoc d)) (c : Fin 2) : corePart m d f c = bigSep Finset.univ fun s : Fin 16 => part m d f c s := by
  rw [corePart]
theorem taskPart_eq (d : Dev nD) (f : Buf (Elt F) (oLoc d)) (c : Fin 2) (s : Fin 16) :
    taskPart m d f c s = taskRes d (LL c s) (X0 m d) (m (tLoc d)) (taskShare c s) f := by
  rw [taskPart]

instance (d : Dev nD) (f : Buf (Elt F) (oLoc d)) (c : Fin 2) : BI.Storable (upEmb : UEmb _ 𝕄) (corePart m d f c) := by
  rw [corePart_eq]; infer_instance
instance (d : Dev nD) (f : Buf (Elt F) (oLoc d)) (c : Fin 2) (s : Fin 16) : BI.Storable (upEmb : UEmb _ 𝕄) (taskPart m d f c s) := by
  rw [taskPart_eq]; infer_instance

/-- The call hands each SparseCore its tasks' parts and takes them back with the result's blocks at what it is to leave
    there; each task gets its part and its two banks of the SparseCore's shared memory, and brings them back. -/
def P : (K (F := F)).Pay (nD := nD) (Val := Elt F) (Name := ℕ) (U := UU) where
  st := fun q d c => match q with | 0 => corePart m d (m (oLoc d)) (Fin.cast nCore_zero c)
  dn := fun q d c => match q with | 0 => corePart m d (Ov m d) (Fin.cast nCore_zero c)
  go := fun q d c i => match q with | 0 => taskPart m d (m (oLoc d)) (Fin.cast nCore_zero c) (Fin.cast nSub_zero i)
  td := fun q d c i => match q with | 0 => taskPart m d (Ov m d) (Fin.cast nCore_zero c) (Fin.cast nSub_zero i)
  x := fun _ _ => iprop(emp)

instance P_storable : (P (F := F) m).IsStorable where
  st q d c := match q with
    | 0 => (inferInstance : BI.Storable (upEmb : UEmb _ 𝕄) (corePart m d (m (oLoc d)) (Fin.cast nCore_zero c)))
  dn q d c := match q with
    | 0 => (inferInstance : BI.Storable (upEmb : UEmb _ 𝕄) (corePart m d (Ov m d) (Fin.cast nCore_zero c)))
  go q d c i := match q with
    | 0 => (inferInstance : BI.Storable (upEmb : UEmb _ 𝕄) (taskPart m d (m (oLoc d)) (Fin.cast nCore_zero c) (Fin.cast nSub_zero i)))
  td q d c i := match q with
    | 0 => (inferInstance : BI.Storable (upEmb : UEmb _ 𝕄) (taskPart m d (Ov m d) (Fin.cast nCore_zero c) (Fin.cast nSub_zero i)))

theorem P_st (d : Dev nD) (c : Fin ((K (F := F)).nCore 0)) : (P m).st 0 d c = corePart m d (m (oLoc d)) (Fin.cast nCore_zero c) := rfl
theorem P_dn (d : Dev nD) (c : Fin ((K (F := F)).nCore 0)) : (P m).dn 0 d c = corePart m d (Ov m d) (Fin.cast nCore_zero c) := rfl
theorem P_go (d : Dev nD) (c : Fin ((K (F := F)).nCore 0)) (i : Fin ((K (F := F)).nSub 0)) :
    (P m).go 0 d c i = taskPart m d (m (oLoc d)) (Fin.cast nCore_zero c) (Fin.cast nSub_zero i) := rfl
theorem P_td (d : Dev nD) (c : Fin ((K (F := F)).nCore 0)) (i : Fin ((K (F := F)).nSub 0)) :
    (P m).td 0 d c i = taskPart m d (Ov m d) (Fin.cast nCore_zero c) (Fin.cast nSub_zero i) := rfl

/-! ## A task's obligation -/

theorem defs₀_vector (c : Fin τ.nSC) (s : Fin τ.nSub) :
    defs₀ (F := F) (.scVector c s) 0 ()
      = SparseCore.onTile hcore0 hsub0 (fun c s => cc0__gather_body (coordsV c s)
          iV (Memref.isWhole_whole _) tV (Memref.isWhole_whole _) oV (Memref.isWhole_whole _) sV (Memref.isWhole_whole _)
          r0V (Memref.isWhole_whole _) r1V (Memref.isWhole_whole _) shV (Memref.isWhole_whole _)
          cc0_scratch4 cc0_scratch5 cc0_scratch6 cc0_scratch7 cc0_scratch8 cc0_scratch9 cc0_scoped0) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hpre : PreOK m) : (K (F := F)).TileObl (D (F := F)) 𝒱 (P m) v₀ 0 := by
  intro d c i O W hO _ _
  rw [P_go, P_td, taskPart_eq, taskPart_eq]
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (LL (Fin.cast nCore_zero c) (Fin.cast nSub_zero i)) (X0 m d) (m (tLoc d)) hF (X0_lt m hpre d)
    (taskShare (Fin.cast nCore_zero c) (Fin.cast nSub_zero i)) (m (oLoc d)) O W hO).trans (wp_mono frame _ _ fun _ => obl_post)

/-! ## A SparseCore's part is its tasks' parts -/

abbrev coreOf (c : Fin ((K (F := F)).nCore 0)) : Fin τ.nSC := (K (F := F)).core 0 c

/-- The shared memory is among the sequencer's own buffers. -/
theorem ownBufs_S (d : Dev nD) (c : Fin τ.nSC) :
    (ownBufs (S d c) : sProp 𝕄)
      = iprop((∃ f, shLoc d c ↦{fullShare} f) ∗ bigSep ((ownRefs (τ := τ) (.scScalar c)).erase (shRef c)) fun b => iprop(∃ f, ((d, b) : Loc nD τ sig) ↦{fullShare} f)) := by
  unfold SparseCore.Cfg.ownBufs
  have h : shRef c ∈ ownRefs (τ := τ) (sig := sig) (.scScalar c) := (mem_ownRefs (p := Proc.scScalar c) (b := shRef c)).mpr rfl
  exact SparseCore.bigSep_erase' h

theorem sep_five {A B C D E : sProp 𝕄} : (iprop(A ∗ B ∗ C ∗ D ∗ E) : sProp 𝕄) ⊢ iprop((A ∗ B ∗ C) ∗ D ∗ E) := by
  iintro ⟨HA, HB, HC, HD⟩
  isplitr [HD]; swap; · iexact HD
  isplitl [HA]; · iexact HA
  isplitl [HB]; · iexact HB
  iexact HC
theorem sep_five' {A B C D E : sProp 𝕄} : (iprop((A ∗ B ∗ C) ∗ D ∗ E) : sProp 𝕄) ⊢ iprop(A ∗ B ∗ C ∗ D ∗ E) := by
  iintro ⟨⟨HA, HB, HC⟩, HD⟩
  isplitl [HA]; · iexact HA
  isplitl [HB]; · iexact HB
  isplitl [HC]; · iexact HC
  iexact HD

/-- What SparseCore `c`'s tasks hold is its part and their banks. -/
theorem tasks_eq (d : Dev nD) (f : Buf (Elt F) (oLoc d)) (c : Fin 2) :
    (bigSep Finset.univ fun s : Fin 16 => taskPart m d f c s)
      = (iprop(corePart m d f c ∗ bigSep Finset.univ fun s : Fin 16 => banks (F := F) d c s) : sProp 𝕄) := by
  rw [corePart_eq, ← bigSep_sep' Finset.univ (fun s : Fin 16 => part m d f c s) (fun s : Fin 16 => banks (F := F) d c s)]
  refine bigSep_congr fun s _ => ?_
  rw [taskPart_eq]
  exact BI.equiv_iff.mp ⟨sep_five, sep_five'⟩

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

theorem vecSplit : (K (F := F)).VecSplit (P m) 0 := by
  intro d c
  simp only [P_st, P_dn, P_go, P_td]
  rw [bigSep_tasks (F := F) (fun i => taskPart m d (m (oLoc d)) (Fin.cast nCore_zero c) i),
    bigSep_tasks (F := F) (fun i => taskPart m d (Ov m d) (Fin.cast nCore_zero c) i), tasks_eq, tasks_eq, ownBufs_S]
  iintro ⟨Hst, ⟨%fsh, Hsh⟩, Hrest⟩; imodintro
  isplitl [Hst Hsh]
  · isplitl [Hst]; · iexact Hst
    iapply (banks_out (F := F) d (Fin.cast nCore_zero c) fsh); iexact Hsh
  iintro ⟨Hdn, Hb⟩
  isplitl [Hdn]; · iexact Hdn
  isplitl [Hb]; · iapply (banks_back (F := F) d (Fin.cast nCore_zero c)); iexact Hb
  iexact Hrest

/-- The call's operands and result whole are the two SparseCores' parts. -/
theorem parts_eq (d : Dev nD) (f : Buf (Elt F) (oLoc d)) :
    (bigSep Finset.univ fun c : Fin 2 => corePart m d f c)
      = (iprop((iLoc d ↦{fullShare} X0 m d) ∗ (tLoc d ↦{fullShare} m (tLoc d)) ∗ oLoc d ↦{fullShare} f) : sProp 𝕄) := by
  rw [lookups_split, table_split, result_split, ← bigSep_sep', ← bigSep_sep']
  refine bigSep_congr fun c _ => ?_
  rw [corePart_eq, ← bigSep_sep', ← bigSep_sep']

/-! ## The launch element of the certificate's ghost state -/

def u₀ : UU := (initOf (K (F := F)).hsCells (K (F := F)).hsToks, 1)

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [show (bigSep Finset.univ fun _ : Dev nD => iprop(emp)) = (iprop(emp) : sProp 𝕄) from bigSep_emp_const _]; iempintro
  rw [show (bigSep Finset.univ fun thr : Thread nD τ => bigSep Finset.univ fun q : Fin 1 => (P (F := F) m).x q thr) = (iprop(emp) : sProp 𝕄) from
    (bigSep_congr fun _ _ => bigSep_univ_of_subsingleton (0 : Fin 1)).trans (bigSep_emp_const _)]
  iempintro

/-! ## @main on the TensorCore -/

abbrev a' : DevRef τ sig := Proc.devRef .tc (main_arg0 : Ref sig .tc)
abbrev t' : DevRef τ sig := Proc.devRef .tc (main_arg1 : Ref sig .tc)
abbrev i' : DevRef τ sig := Proc.devRef .tc (main_v0 : Ref sig .tc)
abbrev o' : DevRef τ sig := Proc.devRef .tc (main_v1 : Ref sig .tc)
abbrev r' : DevRef τ sig := Proc.devRef .tc (main_v2 : Ref sig .tc)
/-- The program's five arrays. -/
abbrev S5 : Finset (DevRef τ sig) := {a', t', i', o', r'}

abbrev opIn : HloOp τ sig (Elt F) := StableHlo.reshape main_arg0 main_v0 (rfl : (.i32 : EltTy) = .i32) shapeCasts_S4096x200_S32x200x128
abbrev opOut : HloOp τ sig (Elt F) := StableHlo.reshape main_v1 main_v2 (rfl : (.f32 : EltTy) = .f32) shapeCasts_S819200x128_S4096x200x128

theorem held_S5 (d : Dev nD) (W : Valuation τ sig (Elt F)) :
    (held (T d) S5 W : sProp 𝕄)
      = iprop((aLoc d ↦{fullShare} W a') ∗ (tLoc d ↦{fullShare} W t') ∗ (iLoc d ↦{fullShare} W i') ∗ (oLoc d ↦{fullShare} W o') ∗ rLoc d ↦{fullShare} W r') := by
  unfold held S5
  rw [SparseCore.bigSep_insert' (by decide), SparseCore.bigSep_insert' (by decide), SparseCore.bigSep_insert' (by decide),
    SparseCore.bigSep_insert' (by decide), bigSep_singleton]

theorem unscopedBufs_eq (d : Dev nD) (W : (b : Ref sig .tc) → Buf (Elt F) ((d.tc : Thread nD τ).loc b)) :
    (unscopedBufs d W : sProp 𝕄)
      = iprop((aLoc d ↦{fullShare} W main_arg0) ∗ (tLoc d ↦{fullShare} W main_arg1) ∗ (iLoc d ↦{fullShare} W main_v0)
          ∗ (oLoc d ↦{fullShare} W main_v1) ∗ rLoc d ↦{fullShare} W main_v2) := by
  unfold unscopedBufs
  rw [show (Finset.univ.filter fun b : Ref sig .tc => ¬ b.isScoped) = {main_arg0, main_arg1, main_v0, main_v1, main_v2} by decide,
    SparseCore.bigSep_insert' (by decide), SparseCore.bigSep_insert' (by decide), SparseCore.bigSep_insert' (by decide),
    SparseCore.bigSep_insert' (by decide), bigSep_singleton]

/-- The five arrays at the launch, after the first reshape, and after the call. -/
def V0 (d : Dev nD) : Valuation τ sig (Elt F) := fun b => m (d, b)
def V1 (d : Dev nD) : Valuation τ sig (Elt F) := (opIn (F := F)).result (V0 m d)
def V2 (d : Dev nD) : Valuation τ sig (Elt F) := Function.update (V1 m d) o' (Ov m d)

theorem V1_a (d : Dev nD) : V1 m d a' = m (aLoc d) := StableHlo.reshape_result_ne _ _ _ _ _ _ _ (by decide)
theorem V1_t (d : Dev nD) : V1 m d t' = m (tLoc d) := StableHlo.reshape_result_ne _ _ _ _ _ _ _ (by decide)
theorem V1_o (d : Dev nD) : V1 m d o' = m (oLoc d) := StableHlo.reshape_result_ne _ _ _ _ _ _ _ (by decide)
theorem V1_r (d : Dev nD) : V1 m d r' = m (rLoc d) := StableHlo.reshape_result_ne _ _ _ _ _ _ _ (by decide)
theorem V1_i (d : Dev nD) : V1 m d i' = X0 m d := StableHlo.reshape_result _ _ _ _ _ _ _
theorem V2_o (d : Dev nD) : V2 m d o' = Ov m d := Function.update_self _ _ _
theorem V2_a (d : Dev nD) : V2 m d a' = m (aLoc d) := (Function.update_of_ne (show a' ≠ o' by decide) _ _).trans (V1_a m d)
theorem V2_t (d : Dev nD) : V2 m d t' = m (tLoc d) := (Function.update_of_ne (show t' ≠ o' by decide) _ _).trans (V1_t m d)
theorem V2_i (d : Dev nD) : V2 m d i' = X0 m d := (Function.update_of_ne (show i' ≠ o' by decide) _ _).trans (V1_i m d)
theorem V2_r (d : Dev nD) : V2 m d r' = m (rLoc d) := (Function.update_of_ne (show r' ≠ o' by decide) _ _).trans (V1_r m d)

theorem held_V1 (d : Dev nD) :
    (held (T d) S5 ((opIn (F := F)).result (V0 m d)) : sProp 𝕄)
      = iprop((aLoc d ↦{fullShare} m (aLoc d)) ∗ (tLoc d ↦{fullShare} m (tLoc d)) ∗ (iLoc d ↦{fullShare} X0 m d)
          ∗ (oLoc d ↦{fullShare} m (oLoc d)) ∗ rLoc d ↦{fullShare} m (rLoc d)) := by
  show held (T d) S5 (V1 m d) = _
  rw [held_S5, V1_a, V1_t, V1_i, V1_o, V1_r]
theorem held_V2 (d : Dev nD) :
    (held (T d) S5 (V2 m d) : sProp 𝕄)
      = iprop((aLoc d ↦{fullShare} m (aLoc d)) ∗ (tLoc d ↦{fullShare} m (tLoc d)) ∗ (iLoc d ↦{fullShare} X0 m d)
          ∗ (oLoc d ↦{fullShare} Ov m d) ∗ rLoc d ↦{fullShare} m (rLoc d)) := by
  rw [held_S5, V2_a, V2_t, V2_i, V2_o, V2_r]

theorem V3_a (d : Dev nD) : (opOut (F := F)).result (V2 m d) a' = m (aLoc d) :=
  (show (opOut (F := F)).result (V2 m d) a' = V2 m d a' from StableHlo.reshape_result_ne _ _ _ _ _ _ _ (by decide)).trans (V2_a m d)
theorem V3_t (d : Dev nD) : (opOut (F := F)).result (V2 m d) t' = m (tLoc d) :=
  (show (opOut (F := F)).result (V2 m d) t' = V2 m d t' from StableHlo.reshape_result_ne _ _ _ _ _ _ _ (by decide)).trans (V2_t m d)
theorem V3_r (d : Dev nD) : (opOut (F := F)).result (V2 m d) r' = Rv m d := by
  refine (StableHlo.reshape_result _ _ _ _ _ _ _).trans ?_
  rw [V2_o]; rfl

theorem held_V3 (d : Dev nD) :
    (held (T d) S5 ((opOut (F := F)).result (V2 m d)) : sProp 𝕄)
      = iprop((aLoc d ↦{fullShare} m (aLoc d)) ∗ (tLoc d ↦{fullShare} m (tLoc d)) ∗ (iLoc d ↦{fullShare} (opOut (F := F)).result (V2 m d) i')
          ∗ (oLoc d ↦{fullShare} (opOut (F := F)).result (V2 m d) o') ∗ rLoc d ↦{fullShare} Rv m d) := by
  rw [held_S5, V3_a, V3_t, V3_r]

theorem hIn : (opIn (F := F)).bufs ⊆ S5 := show ({a', i'} : Finset (DevRef τ sig)) ⊆ S5 by decide
theorem hOut : (opOut (F := F)).bufs ⊆ S5 := show ({o', r'} : Finset (DevRef τ sig)) ⊆ S5 by decide

theorem st0_eq (d : Dev nD) : (bigSep Finset.univ fun c : Fin ((K (F := F)).nCore 0) => (P m).st 0 d c)
    = iprop((iLoc d ↦{fullShare} X0 m d) ∗ (tLoc d ↦{fullShare} m (tLoc d)) ∗ oLoc d ↦{fullShare} m (oLoc d)) := by
  simp only [P_st]
  rw [bigSep_cores (F := F) (fun c => corePart m d (m (oLoc d)) c), parts_eq]
theorem dn0_eq (d : Dev nD) : (bigSep Finset.univ fun c : Fin ((K (F := F)).nCore 0) => (P m).dn 0 d c)
    = iprop((iLoc d ↦{fullShare} X0 m d) ∗ (tLoc d ↦{fullShare} m (tLoc d)) ∗ oLoc d ↦{fullShare} Ov m d) := by
  simp only [P_dn]
  rw [bigSep_cores (F := F) (fun c => corePart m d (Ov m d) c), parts_eq]

/-- What @main leaves the claims: the lookups and the table as they were, the result at the rows looked up. -/
abbrev FIN (d : Dev nD) : sProp 𝕄 := iprop((aLoc d ↦{fullShare} m (aLoc d)) ∗ (tLoc d ↦{fullShare} m (tLoc d)) ∗ rLoc d ↦{fullShare} Rv m d)

/-- @main on device `d`'s TensorCore: the reshape of the lookups, the call, the reshape of its result. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨Ha, Ht, Hi, Ho, Hr⟩, Hts, -⟩, -⟩
  iapply (wp_hlo_within 𝒱 (SparseCore.T d) none Set.univ (op := opIn) (S := S5) hIn (V := V0 m d)) $$ [Hb Ha Ht Hi Ho Hr]
  · isplitl [Hb]; · iexact Hb
    rw [held_S5]
    isplitl [Ha]; · iexact Ha
    isplitl [Ht]; · iexact Ht
    isplitl [Hi]; · iexact Hi
    isplitl [Ho]; · iexact Ho
    iexact Hr
  iintro ⟨Hb, Hheld⟩
  rw [wp_ret]; imodintro
  ihave Hh := (Entails.of_eq (held_V1 (F := F) m d)) $$ Hheld
  icases Hh with ⟨Ha, Ht, Hi, Ho, Hr⟩
  iapply ((K (F := F)).wp_run (D (F := F)) 𝒱 (EH := EH) (P := P m) κ d 0) $$ [Hst Hi Ht Ho Hb Ha Hr Hts]
  isplitr; · iexact Hctx
  isplitl [Hst]; · iexact Hst
  isplitl [Hi Ht Ho]
  · rw [st0_eq]
    isplitl [Hi]; · iexact Hi
    isplitl [Ht]; · iexact Ht
    iexact Ho
  iintro ⟨Hst, Hdn⟩
  ihave Hdn' := (Entails.of_eq (dn0_eq m d)) $$ Hdn
  icases Hdn' with ⟨Hi, Ht, Ho⟩
  iapply (wp_hlo_within 𝒱 (SparseCore.T d) none Set.univ (op := opOut) (S := S5) hOut (V := V2 m d)) $$ [Hb Ha Ht Hi Ho Hr]
  · isplitl [Hb]; · iexact Hb
    rw [held_V2]
    isplitl [Ha]; · iexact Ha
    isplitl [Ht]; · iexact Ht
    isplitl [Hi]; · iexact Hi
    isplitl [Ho]; · iexact Ho
    iexact Hr
  iintro ⟨Hb, Hheld⟩
  ihave Hh := (Entails.of_eq (held_V3 (F := F) m d)) $$ Hheld
  icases Hh with ⟨Ha, Ht, -, -, Hr⟩
  rw [wp_ret]; imodintro; imodintro
  isplitl [Hst]; · iexact Hst
  isplitr [Hb Hts]
  · isplitl [Ha]; · iexact Ha
    isplitl [Ht]; · iexact Ht
    iexact Hr
  isplitl [Hb] <;> iassumption

/-- What the claims read of device `d`'s final state. -/
def fq (d : Dev nD) (s' : Phys nD τ sig (Elt F)) : Prop :=
  s'.mem.mem (rLoc d) = Rv m d ∧ s'.mem.mem (aLoc d) = m (aLoc d) ∧ s'.mem.mem (tLoc d) = m (tLoc d)

theorem hfin (d : Dev nD) (s' : Phys nD τ sig (Elt F)) : iprop(FIN m d ∗ SI s') ⊢ (⌜fq m d s'⌝ : sProp 𝕄) := by
  iintro ⟨⟨Ha, Ht, Hr⟩, HSI⟩
  ihave H := (persistent_entails_right (SI_pointsTo_agree (st := s') (ℓ := aLoc d) (I := Finset.univ) (q := fullShare) (f := m (aLoc d)))) $$ [HSI Ha]
  · isplitl [HSI] <;> iassumption
  icases H with ⟨%h1, HSI, -⟩
  ihave H := (persistent_entails_right (SI_pointsTo_agree (st := s') (ℓ := tLoc d) (I := Finset.univ) (q := fullShare) (f := m (tLoc d)))) $$ [HSI Ht]
  · isplitl [HSI] <;> iassumption
  icases H with ⟨%h2, HSI, -⟩
  ihave H := (SI_pointsTo_agree (st := s') (ℓ := rLoc d) (I := Finset.univ) (q := fullShare) (f := Rv m d)) $$ [HSI Hr]
  · isplitl [HSI] <;> iassumption
  icases H with %h3
  ipureintro
  exact ⟨funext fun i => h3 i (Finset.mem_univ i), funext fun i => h1 i (Finset.mem_univ i), funext fun i => h2 i (Finset.mem_univ i)⟩

/-! ## The run -/

/-- The final memory: the result at the rows looked up, the lookups and the table as they were, every semaphore at zero. -/
def QC : PUnit × MemSt nD τ sig (Elt F) → Prop := fun r =>
  (∀ c : Dev nD, r.2.mem (rLoc c) = Rv m c ∧ r.2.mem (aLoc c) = m (aLoc c) ∧ r.2.mem (tLoc c) = m (tLoc c)) ∧ r.2.sem = fun _ => 0

/-- The program, all its threads together, runs to that, whatever the floats are. -/
theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hpre)
    (fun q _ => match q with | 0 => vecSplit m)
    m ρ main (fun _ => iprop(emp)) (FIN m) (u₀ (F := F)) (sep_elim_left.trans (hu₀ m)) (hmain m ρ) (fq m) (hfin m) (QC m) (fun _ h hz => ⟨h, hz⟩)

end Cert.Proof.Lookup

end
-- ==== Proof.Value.lean ====
/-
  What is returned, element by element. Of the kernel: at (b, q, l), the table at row `x[b, q]`, column `l`. Of the
  reference: the same, where every lookup is a row number of the table, as the claims' precondition says it is.
-/
module

public import proofs.«01_k».proof.Proof.Launch
public import proofs.«01_k».proof.Proof.Gen.ReferenceIdeal
public import proofs.«01_k».proof.Proof.Gen.Pre_in_vocab
public import Idealize.ShloMosaic.Lib.ReduceAll

@[expose] public section

noncomputable section

namespace Cert.Proof.Lookup

open Cert.KernelIdeal Cert.KernelIdeal.Gen

open Idealize.ShloMosaic
open Idealize.ShloMosaic.SparseCore (S V T)
open Idealize.ShloMosaic.SparseCore.Cfg (HIx ownSems0 ownBufs ownCells mem_ownCells ownRefs mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

open Idealize.ShloMosaic.ValueIdx (ix2 ix3)

variable {F : FTy → Type} [FloatOps F]

/-- The lookup, said once for both programs: at (b, q, l), the table at row `x[b, q]` (reduced into range), column `l`. -/
def lookup {α : Type} (x : IVec S4096x200 32) (Tb : S100000x128.Idx → α) : S4096x200x128.Idx → α :=
  fun y => Tb (tix (x (ix2 (y 0) (y 1))) (y 2))

/-! ## The kernel -/

/-- Reshaped to 32 × 200 lists of 128, looked up row by row, and the rows reshaped back: the lookup. -/
theorem reshaped {α : Type} (A : S4096x200.Idx → BitVec 32) (Tb : S100000x128.Idx → α) :
    shapeCast S4096x200x128 (rowsOf (shapeCast S32x200x128 A shapeCasts_S4096x200_S32x200x128) Tb) shapeCasts_S819200x128_S4096x200x128
      = lookup A Tb := by
  funext y
  have hy0 : (y 0).val < 4096 := (y 0).isLt
  have hy1 : (y 1).val < 200 := (y 1).isLt
  have hr : (y 0).val * 200 + (y 1).val < 819200 := by omega
  have e1 := shapeCast_apply (rowsOf (shapeCast S32x200x128 A shapeCasts_S4096x200_S32x200x128) Tb) shapeCasts_S819200x128_S4096x200x128 y
    (ix2 (⟨(y 0).val * 200 + (y 1).val, hr⟩ : Fin 819200) (y 2)) (by rw [Shape.rowMajor_val_two, Shape.rowMajor_val_three]; rfl)
  have e2 : shapeCast S32x200x128 A shapeCasts_S4096x200_S32x200x128 (xix (⟨(y 0).val * 200 + (y 1).val, hr⟩ : Fin 819200)) = A (ix2 (y 0) (y 1)) := by
    refine shapeCast_apply _ _ _ _ ?_
    rw [Shape.rowMajor_val_two, Shape.rowMajor_val_three]
    show (y 0).val * 200 + (y 1).val
      = (((y 0).val * 200 + (y 1).val) / 25600 * 200 + ((y 0).val * 200 + (y 1).val) / 128 % 200) * 128 + ((y 0).val * 200 + (y 1).val) % 128
    omega
  rw [e1]
  show Tb (tix (shapeCast S32x200x128 A shapeCasts_S4096x200_S32x200x128 (xix (⟨(y 0).val * 200 + (y 1).val, hr⟩ : Fin 819200))) (y 2))
    = Tb (tix (A (ix2 (y 0) (y 1))) (y 2))
  rw [e2]

/-- What the kernel returns is the lookup of its arguments. -/
theorem Rv_eq (m : (ℓ : Loc nD τ sig) → Buf (Elt F) ℓ) (d : Dev nD) :
    (Rv m d : S4096x200x128.Idx → Elt F .f32) = lookup (m (aLoc d)) (m (tLoc d)) := reshaped _ _

/-! ## The precondition -/

/-- A word at or above zero and below 100000, signed, is below 100000, unsigned. -/
theorem toNat_lt_of_range {v : BitVec 32} (h0 : (0#32 : BitVec 32).toInt ≤ v.toInt) (h1 : v.toInt < (100000#32 : BitVec 32).toInt) : v.toNat < 100000 := by
  have e0 : (0#32 : BitVec 32).toInt = 0 := by decide
  have e1 : (100000#32 : BitVec 32).toInt = 100000 := by decide
  rw [e0] at h0; rw [e1] at h1
  rw [BitVec.toInt_eq_toNat_cond] at h0 h1
  have := v.isLt
  split at h0 <;> omega

/-- The claims' precondition says that every lookup is a row number of the table. -/
theorem in_vocab_lt (x : IVec S4096x200 32) (Tb : FVec F S100000x128 .f32)
    (h : Cert.Pre_in_vocab.fn (F := F) x Tb = fun _ => 1#1) (j : S4096x200.Idx) : (x j).toNat < 100000 := by
  have e := congrFun h (fun a => a.elim0)
  have hs : Subsingleton Cert.Pre_in_vocab.S_.Idx := ⟨fun a b => funext fun i => i.elim0⟩
  have hj := @Host.reduce_andi_all _ _ _ _ hs _ _ _ _ _ e j
  obtain ⟨ha, hb⟩ := IntOp.andi_eq_one.mp hj
  exact toNat_lt_of_range (IntOp.cmpi_sge.mp ha) (IntOp.cmpi_slt.mp hb)

/-! ## The reference -/

section Reference

open Cert.ReferenceIdeal.Gen (facts₀ facts)
open Cert.ReferenceIdeal (S1 S1x1x1 S4096x200x1)
open Cert.ReferenceIdeal.Facts₀

/-- A word below 100000 reads the same signed and unsigned. -/
theorem toInt_of_lt {v : BitVec 32} (h : v.toNat < 100000) : v.toInt = v.toNat := by
  rw [BitVec.toInt_eq_toNat_cond]; split <;> omega

/-- The reference's gather at (b, q, l): the table at the row which the start index at (b, q) names, clamped into the
    table, at column `l`. -/
theorem gather_at {α : Type} (Tb : S100000x128.Idx → α) (idx : IVec S4096x200x1 32) (y : S4096x200x128.Idx) :
    Host.gather Cert.ReferenceIdeal.gather_S100000x128_S4096x200x1_S4096x200x128_2_0_n_n_0_2_1128 Tb idx y
      = Tb (ix2 (⟨min (idx (ix3 (y 0) (y 1) (0 : Fin 1))).toInt.toNat 99999, by omega⟩ : Fin 100000) (y 2)) := by
  refine congrArg Tb (funext fun a => Fin.ext ?_)
  generalize hd : Cert.ReferenceIdeal.gather_S100000x128_S4096x200x1_S4096x200x128_2_0_n_n_0_2_1128 = D
  have hoff : D.offsetDims = [2] := by rw [← hd]; rfl
  show D.start y idx a + D.batchCoord y a + D.offCoord y a = _
  subst hd
  rw [GatherDims.batchCoord_eq_zero _ _ _ List.not_mem_nil, Nat.add_zero]
  match a with
  | 0 =>
    rw [GatherDims.offCoord_eq_zero _ _ _ (by decide), Nat.add_zero]
    unfold GatherDims.start
    rw [dif_pos (by decide)]
    show min (idx _).toInt.toNat 99999 = min (idx _).toInt.toNat 99999
    congr 3
    refine congrArg idx (funext fun b => Fin.ext ?_)
    match b with
    | 0 => rfl
    | 1 => rfl
    | 2 => rfl
  | 1 =>
    unfold GatherDims.start GatherDims.offCoord
    rw [dif_neg (by decide), dif_pos (by decide), Nat.zero_add]
    rfl

/-- The start index at (b, q), the lookups in range: the lookup there. -/
theorem wrapped (x : IVec S4096x200 32) (hx : ∀ j, (x j).toNat < 100000) :
    (select (cmpi .slt x (broadcastInDim S4096x200 ![] bcast_S_S4096x200 (constantI S_ 32 0#32)))
      (addi x (broadcastInDim S4096x200 ![] bcast_S_S4096x200 (constantI S_ 32 100000#32))) x) = x := by
  funext j
  have h : IntOp.cmpi .slt (x j) 0#32 = 0#1 := by
    refine ValueIdx.eq_zero_of_ne_one fun h => ?_
    have e0 : (0#32 : BitVec 32).toInt = 0 := by decide
    have := IntOp.cmpi_slt.mp h
    rw [toInt_of_lt (hx j), e0] at this; omega
  show Scalar.select (IntOp.cmpi .slt (x j) 0#32) _ (x j) = x j
  rw [h]; rfl

/-- The reference's value is the lookup, the lookups in range. -/
theorem take_eq (x : IVec S4096x200 32) (Tb : FVec F S100000x128 .f32) (hx : ∀ j, (x j).toNat < 100000) :
    select (broadcastInDim S4096x200x128 ![0, 1] bcast_S4096x200_S4096x200x128_0_1 (Host.reduce IntOp.andi (andi (cmpi .sge (broadcastInDim S4096x200x1 ![0, 1] bcast_S4096x200_S4096x200x1_0_1 (select (cmpi .slt x (broadcastInDim S4096x200 ![] bcast_S_S4096x200 (constantI S_ 32 0#32))) (addi x (broadcastInDim S4096x200 ![] bcast_S_S4096x200 (constantI S_ 32 100000#32))) x)) (broadcastInDim S4096x200x1 ![] bcast_S_S4096x200x1 (constantI S_ 32 0#32))) (cmpi .sle (broadcastInDim S4096x200x1 ![0, 1] bcast_S4096x200_S4096x200x1_0_1 (select (cmpi .slt x (broadcastInDim S4096x200 ![] bcast_S_S4096x200 (constantI S_ 32 0#32))) (addi x (broadcastInDim S4096x200 ![] bcast_S_S4096x200 (constantI S_ 32 100000#32))) x)) (broadcastInDim S4096x200x1 ![0, 1, 2] bcast_S1x1x1_S4096x200x1_0_1_2 (broadcastInDim S1x1x1 ![2] bcast_S1_S1x1x1_2 (constantI S1 32 99999#32))))) (constantI S_ 1 1#1) reducesTo_S4096x200x1_S4096x200_d2 h_S_)) (Host.gather Cert.ReferenceIdeal.gather_S100000x128_S4096x200x1_S4096x200x128_2_0_n_n_0_2_1128 Tb (broadcastInDim S4096x200x1 ![0, 1] bcast_S4096x200_S4096x200x1_0_1 (select (cmpi .slt x (broadcastInDim S4096x200 ![] bcast_S_S4096x200 (constantI S_ 32 0#32))) (addi x (broadcastInDim S4096x200 ![] bcast_S_S4096x200 (constantI S_ 32 100000#32))) x))) (broadcastInDim S4096x200x128 ![] bcast_S_S4096x200x128 (constant S_ .f32 0x7FC00000#32))
      = lookup x Tb := by
  rw [wrapped x hx]
  funext y
  have hy : ∀ j : S4096x200x1.Idx, (broadcastInDim S4096x200x1 ![0, 1] bcast_S4096x200_S4096x200x1_0_1 x j).toNat < 100000 := fun j => hx _
  have hm : ∀ j : S4096x200.Idx, Host.reduce IntOp.andi (andi (cmpi .sge (broadcastInDim S4096x200x1 ![0, 1] bcast_S4096x200_S4096x200x1_0_1 x) (broadcastInDim S4096x200x1 ![] bcast_S_S4096x200x1 (constantI S_ 32 0#32))) (cmpi .sle (broadcastInDim S4096x200x1 ![0, 1] bcast_S4096x200_S4096x200x1_0_1 x) (broadcastInDim S4096x200x1 ![0, 1, 2] bcast_S1x1x1_S4096x200x1_0_1_2 (broadcastInDim S1x1x1 ![2] bcast_S1_S1x1x1_2 (constantI S1 32 99999#32))))) (constantI S_ 1 1#1) reducesTo_S4096x200x1_S4096x200_d2 h_S_ j = 1#1 := by
    intro j
    refine Host.reduce_andi_one _ _ _ _ _ rfl fun i => IntOp.andi_eq_one.mpr ⟨IntOp.cmpi_sge.mpr ?_, IntOp.cmpi_sle.mpr ?_⟩
    · show (0#32 : BitVec 32).toInt ≤ _
      rw [toInt_of_lt (hy i), show (0#32 : BitVec 32).toInt = 0 by decide]; omega
    · show _ ≤ (99999#32 : BitVec 32).toInt
      rw [toInt_of_lt (hy i), show (99999#32 : BitVec 32).toInt = 99999 by decide]; have := hy i; omega
  have hb : ∀ r : IVec S4096x200 1, (∀ j, r j = 1#1) → broadcastInDim S4096x200x128 ![0, 1] bcast_S4096x200_S4096x200x128_0_1 r y = 1#1 := fun r h => h _
  rw [ValueIdx.select_apply, hb _ hm, ValueIdx.select_one, gather_at]
  have e : broadcastInDim S4096x200x1 ![0, 1] bcast_S4096x200_S4096x200x1_0_1 x (ix3 (y 0) (y 1) (0 : Fin 1)) = x (ix2 (y 0) (y 1)) :=
    congrArg x (funext fun a => match a with | 0 => rfl | 1 => rfl)
  show Tb (ix2 _ _) = Tb (ix2 _ _)
  have hv := hx (ix2 (y 0) (y 1))
  congr 2
  refine Fin.ext ?_
  show min (BitVec.toInt _).toNat 99999 = _ % 100000
  rw [e, toInt_of_lt hv, Nat.mod_eq_of_lt hv]; omega

end Reference

end Cert.Proof.Lookup

end
-- ==== Proof.lean ====
/- The proof of the claim: the modules `Proof.*` hold the run of the kernel, the value of the reference
   and the precondition; here they are put together. -/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Reference
public import proofs.«01_k».proof.Proof.Gen.Reference.Run
public import proofs.«01_k».proof.Proof.Gen.Pre_in_vocab
public import proofs.«01_k».proof.Proof.Launch
public import proofs.«01_k».proof.Proof.Value
public import Idealize.ShloMosaic.Adequacy
public import Idealize.ShloMosaic.Init

@[expose] public section

noncomputable section

namespace Cert.Proof

open Idealize.ShloMosaic Idealize.SL.Sem Cert.Kernel

open Cert.Proof.Lookup (run_main PreOK Rv Rv_eq lookup in_vocab_lt take_eq)

/-- The kernel runs, leaves its arguments as they were, and every semaphore at zero. -/
theorem frame_kernel : Cert.quiescent_Kernel := fun m g hP =>
  (θ_run Cert.KernelIdeal.defs _ _).mono (fun _ h => ⟨fun c => (h.1 c).2, h.2⟩)
    (run_main (F := Bits) m g fun d j => in_vocab_lt _ _ (hP d) j)

/-- The same over the extended reals. -/
theorem frame_kernelIdeal : Cert.quiescent_KernelIdeal := fun m g hP =>
  (θ_run Cert.KernelIdeal.defs _ _).mono (fun _ h => ⟨fun c => (h.1 c).2, h.2⟩)
    (run_main (F := Ideal) m g fun d j => in_vocab_lt _ _ (hP d) j)

/-- The reference runs, leaves its arguments as they were, and every semaphore at zero: over the extended reals, for every argument. -/
theorem frame_referenceIdeal : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- The same over the machine's floats. -/
theorem frame_reference : Cert.quiescent_Reference := fun m g _ =>
  (θ_run Cert.Reference.defs _ _).mono (fun r h => ⟨fun c => (h c).2, sem_eq_zero_of_no_sems (by decide) r.2⟩)
    (Cert.Reference.Value.run (F := Bits) m g)

/-- Over the extended reals the kernel and the reference both end at the lookup of their arguments. -/
theorem algebraic : Cert.algebraic_KernelIdeal_ReferenceIdeal := fun m g m' g' hP hag =>
  have hx : PreOK m := fun d j => in_vocab_lt _ _ (hP d) j
  ⟨fun c => Rv m c,
    (θ_run Cert.KernelIdeal.defs _ _).mono (fun _ h c => h.1 c) (run_main (F := Ideal) m g hx),
    (θ_run Cert.ReferenceIdeal.defs _ _).mono
      (fun _ h c => ⟨(h c).1.trans (by
        rw [(hag c).1, (hag c).2]
        exact (take_eq (F := Ideal) _ _ (hx c)).trans (Rv_eq m c).symm), (h c).2⟩)
      (Cert.ReferenceIdeal.Value.run (F := Ideal) m' g')⟩

/-- Over the machine's floats, bit for bit, likewise. -/
theorem bitexact : Cert.bitexact_Kernel_Reference := fun m g m' g' hP hag =>
  have hx : PreOK (F := Bits) m := fun d j => in_vocab_lt _ _ (hP d) j
  ⟨fun c => Rv (F := Bits) m c,
    (θ_run Cert.KernelIdeal.defs _ _).mono (fun _ h c => h.1 c) (run_main (F := Bits) m g hx),
    (θ_run Cert.Reference.defs _ _).mono
      (fun _ h c => ⟨(h c).1.trans (by
        rw [(hag c).1, (hag c).2]
        exact (take_eq (F := Bits) _ _ (hx c)).trans (Rv_eq (F := Bits) m c).symm), (h c).2⟩)
      (Cert.Reference.Value.run (F := Bits) m' g')⟩

/-- The claim: the four frames, those of the reference for every argument, and the two equations. -/
theorem claim : Cert.Claim := ⟨Cert.Kernel.Gen.facts, Cert.KernelIdeal.Gen.facts, Cert.ReferenceIdeal.Gen.facts, Cert.Reference.Gen.facts, Cert.Pre_in_vocab.Gen.facts,
  frame_kernel, frame_kernelIdeal, frame_referenceIdeal, fun m g _ => frame_referenceIdeal m g trivial, frame_reference,
  fun m g _ => frame_reference m g trivial, trivial, algebraic, bitexact⟩

end Cert.Proof

end
